-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "far" .f32 0x7149F2CA#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x3 : Shape := ⟨2, ![16384, 3]⟩
abbrev S3x16384 : Shape := ⟨2, ![3, 16384]⟩
abbrev S3x16x8x128 : Shape := ⟨4, ![3, 16, 8, 128]⟩
abbrev S1x16x8x128 : Shape := ⟨4, ![1, 16, 8, 128]⟩
abbrev S16x8x128 : Shape := ⟨3, ![16, 8, 128]⟩
abbrev S4096x3 : Shape := ⟨2, ![4096, 3]⟩
abbrev S1x1x1 : Shape := ⟨3, ![1, 1, 1]⟩
abbrev S1x1 : Shape := ⟨2, ![1, 1]⟩
abbrev S1x3 : Shape := ⟨2, ![1, 3]⟩
abbrev S8x128 : Shape := ⟨2, ![8, 128]⟩
abbrev S8x1 : Shape := ⟨2, ![8, 1]⟩
abbrev S1x8x128 : Shape := ⟨3, ![1, 8, 128]⟩
abbrev S8x8x128 : Shape := ⟨3, ![8, 8, 128]⟩
abbrev S4x8x128 : Shape := ⟨3, ![4, 8, 128]⟩
abbrev S2x8x128 : Shape := ⟨3, ![2, 8, 128]⟩
abbrev S8 : Shape := ⟨1, ![8]⟩
abbrev S1x8x1 : Shape := ⟨3, ![1, 8, 1]⟩
abbrev S1 : Shape := ⟨1, ![1]⟩
abbrev S1x1x1x1 : Shape := ⟨4, ![1, 1, 1, 1]⟩
abbrev S3x4096 : Shape := ⟨2, ![3, 4096]⟩
abbrev S16384x4096 : Shape := ⟨2, ![16384, 4096]⟩
abbrev S1024x3 : Shape := ⟨2, ![1024, 3]⟩
abbrev S1024x4096 : Shape := ⟨2, ![1024, 4096]⟩
abbrev S1024 : Shape := ⟨1, ![1024]⟩
abbrev S1024x1 : Shape := ⟨2, ![1024, 1]⟩
abbrev S4096 : Shape := ⟨1, ![4096]⟩
abbrev S1x4096 : Shape := ⟨2, ![1, 4096]⟩

abbrev nBuf : Space → Nat
  | .hbm => 12
  | .vmem => 10
  | .smem => 0
  | _ => 0

abbrev bufTy : (tb : Table) → Fin (tcTables nBuf tb) → BufTy
  | .hbm, ⟨0, _⟩ => ⟨S16384x3, .f32⟩
  | .hbm, ⟨1, _⟩ => ⟨S3x16384, .f32⟩
  | .hbm, ⟨2, _⟩ => ⟨S3x16x8x128, .f32⟩
  | .hbm, ⟨3, _⟩ => ⟨S1x16x8x128, .f32⟩
  | .hbm, ⟨4, _⟩ => ⟨S16x8x128, .f32⟩
  | .hbm, ⟨5, _⟩ => ⟨S1x16x8x128, .f32⟩
  | .hbm, ⟨6, _⟩ => ⟨S16x8x128, .f32⟩
  | .hbm, ⟨7, _⟩ => ⟨S1x16x8x128, .f32⟩
  | .hbm, ⟨8, _⟩ => ⟨S16x8x128, .f32⟩
  | .hbm, ⟨9, _⟩ => ⟨S4096x3, .f32⟩
  | .hbm, ⟨10, _⟩ => ⟨S3x4096, .f32⟩
  | .hbm, ⟨11, _⟩ => ⟨S16384x4096, .f32⟩
  | .local _ .vmem, ⟨0, _⟩ => ⟨S16x8x128, .f32⟩
  | .local _ .vmem, ⟨1, _⟩ => ⟨S16x8x128, .f32⟩
  | .local _ .vmem, ⟨2, _⟩ => ⟨S16x8x128, .f32⟩
  | .local _ .vmem, ⟨3, _⟩ => ⟨S4096x3, .f32⟩
  | .local _ .vmem, ⟨4, _⟩ => ⟨S16x8x128, .f32⟩
  | .local _ .vmem, ⟨5, _⟩ => ⟨S1024x3, .f32⟩
  | .local _ .vmem, ⟨6, _⟩ => ⟨S1024x3, .f32⟩
  | .local _ .vmem, ⟨7, _⟩ => ⟨S3x4096, .f32⟩
  | .local _ .vmem, ⟨8, _⟩ => ⟨S1024x4096, .f32⟩
  | .local _ .vmem, ⟨9, _⟩ => ⟨S1024x4096, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c4095_i32 : BitVec 32 := 4095#32
  let v20 : BitVec 32 := Scalar.addi c1_i32 c4095_i32
  let c1_i32_15 : BitVec 32 := 1#32
  ⟨c1_i32, v20, c1_i32_15⟩
def k0_off1 (k0_t1 : Fin k0_t1_loop.trips) : Fin 2 → Nat :=
  let c1_i32 : BitVec 32 := 1#32
  let c1_i32_15 : BitVec 32 := 1#32
  let arg5 : BitVec 32 := Scf.iv c1_i32 c1_i32_15 k0_t1
  let v186 : Index := Scalar.indexCast arg5
  let c0_61 : Index := 0#32
  ![v186.toNat, 0]
@[reducible] def k0_t2_loop : Scf.Loop 32 :=
  let c1_i32_32 : BitVec 32 := 1#32
  let c4095_i32_33 : BitVec 32 := 4095#32
  let v51 : BitVec 32 := Scalar.addi c1_i32_32 c4095_i32_33
  let c1_i32_34 : BitVec 32 := 1#32
  ⟨c1_i32_32, v51, c1_i32_34⟩
def k0_off2 (k0_t2 : Fin k0_t2_loop.trips) : Fin 2 → Nat :=
  let c1_i32_32 : BitVec 32 := 1#32
  let c1_i32_34 : BitVec 32 := 1#32
  let arg5 : BitVec 32 := Scf.iv c1_i32_32 c1_i32_34 k0_t2
  let v116 : Index := Scalar.indexCast arg5
  let c0_59 : Index := 0#32
  ![v116.toNat, 0]
abbrev stage0_0 : Fin 1 → Memref sig .tc .vmem S16x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== KernelIdeal.lean ====
variable {F : FTy → Type} [FloatOps F] [Named F]
def κ : String → Option EReal := fun
  | "far" => some ⊤
  | _ => none
-- ==== ReferenceIdeal.lean ====
abbrev S16384x3 : Shape := ⟨2, ![16384, 3]⟩
abbrev S_ : Shape := ⟨0, ![]⟩
abbrev S4096 : Shape := ⟨1, ![4096]⟩
abbrev S16384 : Shape := ⟨1, ![16384]⟩
abbrev S1 : Shape := ⟨1, ![1]⟩
abbrev S1x3 : Shape := ⟨2, ![1, 3]⟩
abbrev S3 : Shape := ⟨1, ![3]⟩
abbrev S4096x1 : Shape := ⟨2, ![4096, 1]⟩
abbrev S4096x3 : Shape := ⟨2, ![4096, 3]⟩
abbrev S16384x1 : Shape := ⟨2, ![16384, 1]⟩
abbrev S1x4096 : Shape := ⟨2, ![1, 4096]⟩
abbrev S16384x4096 : Shape := ⟨2, ![16384, 4096]⟩
abbrev S3x4096 : Shape := ⟨2, ![3, 4096]⟩

abbrev nBuf : Space → Nat
  | .hbm => 112
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S_, .i32⟩
  | .hbm, ⟨2, _⟩ => ⟨S4096, .i32⟩
  | .hbm, ⟨3, _⟩ => ⟨S_, .f32⟩
  | .hbm, ⟨4, _⟩ => ⟨S16384, .f32⟩
  | .hbm, ⟨5, _⟩ => ⟨S_, .i32⟩
  | .hbm, ⟨6, _⟩ => ⟨S_, .i32⟩
  | .hbm, ⟨7, _⟩ => ⟨S16384x3, .f32⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S16384, .f32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1x3, .f32⟩
  | .hbm, ⟨40, _⟩ => ⟨S3, .f32⟩
  | .hbm, ⟨41, _⟩ => ⟨S1x3, .f32⟩
  | .hbm, ⟨42, _⟩ => ⟨S16384x3, .f32⟩
  | .hbm, ⟨43, _⟩ => ⟨S16384x3, .f32⟩
  | .hbm, ⟨44, _⟩ => ⟨S16384x3, .f32⟩
  | .hbm, ⟨45, _⟩ => ⟨S_, .f32⟩
  | .hbm, ⟨46, _⟩ => ⟨S16384, .f32⟩
  | .hbm, ⟨47, _⟩ => ⟨S16384, .f32⟩
  | .hbm, ⟨48, _⟩ => ⟨S16384, .i32⟩
  | .hbm, ⟨49, _⟩ => ⟨S_, .f32⟩
  | .hbm, ⟨50, _⟩ => ⟨S_, .i32⟩
  | .hbm, ⟨51, _⟩ => ⟨S_, .f32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1, .i32⟩
  | .hbm, ⟨60, _⟩ => ⟨S4096, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S4096, .i32⟩
  | .hbm, ⟨65, _⟩ => ⟨S4096, .i1⟩
  | .hbm, ⟨66, _⟩ => ⟨S_, .i32⟩
  | .hbm, ⟨67, _⟩ => ⟨S4096, .i32⟩
  | .hbm, ⟨68, _⟩ => ⟨S4096, .i32⟩
  | .hbm, ⟨69, _⟩ => ⟨S4096, .i32⟩
  | .hbm, ⟨70, _⟩ => ⟨S4096x1, .i32⟩
  | .hbm, ⟨71, _⟩ => ⟨S4096x3, .f32⟩
  | .hbm, ⟨72, _⟩ => ⟨S16384x3, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S4096x3, .f32⟩
  | .hbm, ⟨77, _⟩ => ⟨S_, .f32⟩
  | .hbm, ⟨78, _⟩ => ⟨S4096, .f32⟩
  | .hbm, ⟨79, _⟩ => ⟨S1x4096, .f32⟩
  | .hbm, ⟨80, _⟩ => ⟨S16384x4096, .f32⟩
  | .hbm, ⟨81, _⟩ => ⟨S16384x4096, .f32⟩
  | .hbm, ⟨82, _⟩ => ⟨S16384x4096, .f32⟩
  | .hbm, ⟨83, _⟩ => ⟨S3x4096, .f32⟩
  | .hbm, ⟨84, _⟩ => ⟨S16384x4096, .f32⟩
  | .hbm, ⟨85, _⟩ => ⟨S_, .f32⟩
  | .hbm, ⟨86, _⟩ => ⟨S16384x4096, .f32⟩
  | .hbm, ⟨87, _⟩ => ⟨S16384x4096, .f32⟩
  | .hbm, ⟨88, _⟩ => ⟨S16384x4096, .f32⟩
  | .hbm, ⟨89, _⟩ => ⟨S_, .f32⟩
  | .hbm, ⟨90, _⟩ => ⟨S16384x4096, .f32⟩
  | .hbm, ⟨91, _⟩ => ⟨S16384x4096, .i1⟩
  | .hbm, ⟨92, _⟩ => ⟨S_, .f32⟩
  | .hbm, ⟨93, _⟩ => ⟨S_, .f32⟩
  | .hbm, ⟨94, _⟩ => ⟨S16384x4096, .f32⟩
  | .hbm, ⟨95, _⟩ => ⟨S16384x4096, .f32⟩
  | .hbm, ⟨96, _⟩ => ⟨S16384x4096, .f32⟩
  | .hbm, ⟨97, _⟩ => ⟨S16384x4096, .f32⟩
  | .hbm, ⟨98, _⟩ => ⟨S_, .f32⟩
  | .hbm, ⟨99, _⟩ => ⟨S16384, .f32⟩
  | .hbm, ⟨100, _⟩ => ⟨S_, .f32⟩
  | .hbm, ⟨101, _⟩ => ⟨S16384, .f32⟩
  | .hbm, ⟨102, _⟩ => ⟨S16384, .f32⟩
  | .hbm, ⟨103, _⟩ => ⟨S16384x1, .f32⟩
  | .hbm, ⟨104, _⟩ => ⟨S16384x4096, .f32⟩
  | .hbm, ⟨105, _⟩ => ⟨S16384x4096, .f32⟩
  | .hbm, ⟨106, _⟩ => ⟨S16384x4096, .f32⟩
  | .hbm, ⟨107, _⟩ => ⟨S_, .f32⟩
  | .hbm, ⟨108, _⟩ => ⟨S16384, .f32⟩
  | .hbm, ⟨109, _⟩ => ⟨S16384x1, .f32⟩
  | .hbm, ⟨110, _⟩ => ⟨S16384x4096, .f32⟩
  | .hbm, ⟨111, _⟩ => ⟨S16384x4096, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c_0 : Ref sig .tc := ⟨.hbm, 5, rfl⟩
abbrev main_c_1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_while0c_c_17 : Ref sig .tc := ⟨.hbm, 12, rfl⟩
abbrev main_while0c_v39 : Ref sig .tc := ⟨.hbm, 13, rfl⟩
abbrev main_while0b_c_17 : Ref sig .tc := ⟨.hbm, 14, rfl⟩
abbrev main_while0b_v39 : Ref sig .tc := ⟨.hbm, 15, rfl⟩
abbrev main_while0b_c_18 : Ref sig .tc := ⟨.hbm, 16, rfl⟩
abbrev main_while0b_v40 : Ref sig .tc := ⟨.hbm, 17, rfl⟩
abbrev main_while0b_c_19 : Ref sig .tc := ⟨.hbm, 18, rfl⟩
abbrev main_while0b_v41 : Ref sig .tc := ⟨.hbm, 19, rfl⟩
abbrev main_while0b_v42 : Ref sig .tc := ⟨.hbm, 20, rfl⟩
abbrev main_while0b_c_20 : Ref sig .tc := ⟨.hbm, 21, rfl⟩
abbrev main_while0b_v43 : Ref sig .tc := ⟨.hbm, 22, rfl⟩
abbrev main_while0b_v44 : Ref sig .tc := ⟨.hbm, 23, rfl⟩
abbrev main_while0b_v45 : Ref sig .tc := ⟨.hbm, 24, rfl⟩
abbrev main_while0b_v46 : Ref sig .tc := ⟨.hbm, 25, rfl⟩
abbrev main_while0b_c_21 : Ref sig .tc := ⟨.hbm, 26, rfl⟩
abbrev main_while0b_v47 : Ref sig .tc := ⟨.hbm, 27, rfl⟩
abbrev main_while0b_c_22 : Ref sig .tc := ⟨.hbm, 28, rfl⟩
abbrev main_while0b_v48 : Ref sig .tc := ⟨.hbm, 29, rfl⟩
abbrev main_while0b_v49 : Ref sig .tc := ⟨.hbm, 30, rfl⟩
abbrev main_while0b_c_23 : Ref sig .tc := ⟨.hbm, 31, rfl⟩
abbrev main_while0b_c_24 : Ref sig .tc := ⟨.hbm, 32, rfl⟩
abbrev main_while0b_v50 : Ref sig .tc := ⟨.hbm, 33, rfl⟩
abbrev main_while0b_c_25 : Ref sig .tc := ⟨.hbm, 34, rfl⟩
abbrev main_while0b_c_26 : Ref sig .tc := ⟨.hbm, 35, rfl⟩
abbrev main_while0b_v51 : Ref sig .tc := ⟨.hbm, 36, rfl⟩
abbrev main_while0b_c_27 : Ref sig .tc := ⟨.hbm, 37, rfl⟩
abbrev main_while0b_v52 : Ref sig .tc := ⟨.hbm, 38, rfl⟩
abbrev main_while0b_v53 : Ref sig .tc := ⟨.hbm, 39, rfl⟩
abbrev main_while0b_v54 : Ref sig .tc := ⟨.hbm, 40, rfl⟩
abbrev main_while0b_v55 : Ref sig .tc := ⟨.hbm, 41, rfl⟩
abbrev main_while0b_v56 : Ref sig .tc := ⟨.hbm, 42, rfl⟩
abbrev main_while0b_v57 : Ref sig .tc := ⟨.hbm, 43, rfl⟩
abbrev main_while0b_v58 : Ref sig .tc := ⟨.hbm, 44, rfl⟩
abbrev main_while0b_cst_28 : Ref sig .tc := ⟨.hbm, 45, rfl⟩
abbrev main_while0b_v59 : Ref sig .tc := ⟨.hbm, 46, rfl⟩
abbrev main_while0b_v60 : Ref sig .tc := ⟨.hbm, 47, rfl⟩
abbrev main_while0b_call0_v0 : Ref sig .tc := ⟨.hbm, 48, rfl⟩
abbrev main_while0b_call0_cst : Ref sig .tc := ⟨.hbm, 49, rfl⟩
abbrev main_while0b_call0_c : Ref sig .tc := ⟨.hbm, 50, rfl⟩
abbrev main_while0b_call0_v1_0 : Ref sig .tc := ⟨.hbm, 51, rfl⟩
abbrev main_while0b_v61 : Ref sig .tc := ⟨.hbm, 52, rfl⟩
abbrev main_while0b_c_29 : Ref sig .tc := ⟨.hbm, 53, rfl⟩
abbrev main_while0b_v62 : Ref sig .tc := ⟨.hbm, 54, rfl⟩
abbrev main_while0b_c_30 : Ref sig .tc := ⟨.hbm, 55, rfl⟩
abbrev main_while0b_v63 : Ref sig .tc := ⟨.hbm, 56, rfl⟩
abbrev main_while0b_v64 : Ref sig .tc := ⟨.hbm, 57, rfl⟩
abbrev main_while0b_v65 : Ref sig .tc := ⟨.hbm, 58, rfl⟩
abbrev main_while0b_v66 : Ref sig .tc := ⟨.hbm, 59, rfl⟩
abbrev main_while0b_v67 : Ref sig .tc := ⟨.hbm, 60, rfl⟩
abbrev main_while0b_c_31 : Ref sig .tc := ⟨.hbm, 61, rfl⟩
abbrev main_while0b_v68 : Ref sig .tc := ⟨.hbm, 62, rfl⟩
abbrev main_c_2 : Ref sig .tc := ⟨.hbm, 63, rfl⟩
abbrev main_v3 : Ref sig .tc := ⟨.hbm, 64, rfl⟩
abbrev main_v4 : Ref sig .tc := ⟨.hbm, 65, rfl⟩
abbrev main_c_3 : Ref sig .tc := ⟨.hbm, 66, rfl⟩
abbrev main_v5 : Ref sig .tc := ⟨.hbm, 67, rfl⟩
abbrev main_v6 : Ref sig .tc := ⟨.hbm, 68, rfl⟩
abbrev main_v7 : Ref sig .tc := ⟨.hbm, 69, rfl⟩
abbrev main_v8 : Ref sig .tc := ⟨.hbm, 70, rfl⟩
abbrev main_v9 : Ref sig .tc := ⟨.hbm, 71, rfl⟩
abbrev main_v10 : Ref sig .tc := ⟨.hbm, 72, rfl⟩
abbrev main_cst_4 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_cst_5 : Ref sig .tc := ⟨.hbm, 77, rfl⟩
abbrev main_v14 : Ref sig .tc := ⟨.hbm, 78, rfl⟩
abbrev main_v15 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_cst_6 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_cst_7 : Ref sig .tc := ⟨.hbm, 89, rfl⟩
abbrev main_v24 : Ref sig .tc := ⟨.hbm, 90, rfl⟩
abbrev main_v25 : Ref sig .tc := ⟨.hbm, 91, rfl⟩
abbrev main_cst_8 : Ref sig .tc := ⟨.hbm, 92, rfl⟩
abbrev main_cst_9 : Ref sig .tc := ⟨.hbm, 93, rfl⟩
abbrev main_call1_v0 : Ref sig .tc := ⟨.hbm, 94, rfl⟩
abbrev main_call1_v1 : Ref sig .tc := ⟨.hbm, 95, rfl⟩
abbrev main_v26 : Ref sig .tc := ⟨.hbm, 96, rfl⟩
abbrev main_v27 : Ref sig .tc := ⟨.hbm, 97, rfl⟩
abbrev main_cst_10 : Ref sig .tc := ⟨.hbm, 98, rfl⟩
abbrev main_v28 : Ref sig .tc := ⟨.hbm, 99, rfl⟩
abbrev main_cst_11 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_cst_12 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩

abbrev nD : Nat := 1
abbrev τ : Topo := Topo.v7x

variable {F : FTy → Type} [FloatOps F]

abbrev main_while0_count : Scf.Loop 32 := ⟨0#32, 4095#32, 1#32⟩
-- ==== Proof.FpsRun.lean ====
/-
  The farthest-point kernel (region 0) run on one core: from its three coordinate arrays, the centroid array and the scratch held
  whole, the body returns with the coordinates as they were and the centroids at `fpsOut`, a function of the coordinates alone.

  Both counted loops are taken by an invariant that names the carried value, the scratch and the rows written so far by the
  iterates of one trip (`fastStep`, `exactStep`); the conditional on the tie count is split into its two cases.
-/
module

public import proofs.«01_k».proof.Proof.Gen.KernelIdeal.Loops
public import proofs.«01_k».proof.Proof.Gen.KernelIdeal.Launch
public import proofs.«01_k».proof.Proof.Gen.KernelIdeal.Points
public import Idealize.ShloMosaic.Lib.Tactic
public import Idealize.ShloMosaic.Lib.WritesUnit

@[expose] public section

set_option maxRecDepth 16384

noncomputable section

namespace Cert.KernelIdeal.Fps

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Memref `M`'s buffer on core `c`: its contents type, -/
abbrev Bf (c : Dev nD) {sp : Space} {S : Shape} {e : EltTy} (M : Memref sig .tc sp S e) : Type := Buf (Elt F) (M.view.loc (c : Thread nD τ))
/-- and it held whole at `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-! ## One trip of each loop as a function -/

/-- What the fast loop carries, with the running distances. -/
abbrev FastSt (F : FTy → Type) : Type := (FVec F S8x128 .f32 × FVec F S8x128 .f32 × FVec F S8x128 .f32 × FVec F S8x1 .f32) × FVec F S16x8x128 .f32
/-- What the exact loop carries, with the running distances. -/
abbrev ExactSt (F : FTy → Type) : Type := (FVec F S1x1x1 .f32 × FVec F S1x1x1 .f32 × FVec F S1x1x1 .f32) × FVec F S16x8x128 .f32

/-- The first element of a coordinate array, as the one-element block that the kernel loads. -/
def first (X : FVec F S16x8x128 .f32) : Vec F S1x1x1 .f32 := fun _ => X (idx_S16x8x128 0 0 0)
where
  /-- An index of the coordinate arrays from its three positions. -/
  idx_S16x8x128 (a : Fin 16) (b : Fin 8) (l : Fin 128) : S16x8x128.Idx := fun | ⟨0, _⟩ => a | ⟨1, _⟩ => b | ⟨2, _⟩ => l

section Steps
variable (X0 X1 X2 : FVec F S16x8x128 .f32)

def v50 (s : FastSt F) : FVec F S16x8x128 .f32 := k0_pay32 s.1.1 s.1.2.1 s.1.2.2.1 X0 X1 X2 s.2
def v68 (s : FastSt F) : FVec F S8x128 .f32 := k0_pay34 s.1.1 s.1.2.1 s.1.2.2.1 X0 X1 X2 s.2
def v69 (s : FastSt F) : FVec F S8x128 .f32 := k0_pay35 s.1.1 s.1.2.1 s.1.2.2.1 X0 X1 X2 s.2
def v72 (s : FastSt F) : FVec F S8x128 .f32 := k0_pay36 (v68 X0 X1 X2 s) (v69 X0 X1 X2 s)
def v74 (s : FastSt F) : FVec F S8x1 .f32 := k0_pay37 (v68 X0 X1 X2 s) (v69 X0 X1 X2 s)
def v77 (s : FastSt F) : IVec S16x8x128 1 := k0_pay38 (v50 X0 X1 X2 s) (v68 X0 X1 X2 s) (v69 X0 X1 X2 s)
def v98 (s : FastSt F) : FVec F S8x128 .f32 := k0_pay39 (k0_pay29 X0) (v50 X0 X1 X2 s) (v68 X0 X1 X2 s) (v69 X0 X1 X2 s)
def v119 (s : FastSt F) : FVec F S8x128 .f32 := k0_pay40 (k0_pay30 X1) (v50 X0 X1 X2 s) (v68 X0 X1 X2 s) (v69 X0 X1 X2 s)
def v140 (s : FastSt F) : FVec F S8x128 .f32 := k0_pay41 (k0_pay31 X2) (v77 X0 X1 X2 s)
def v162 (s : FastSt F) : FVec F S8x128 .f32 := k0_pay42 (v77 X0 X1 X2 s)
def v164 (s : FastSt F) : IVec S8x128 1 := k0_pay43 (v72 X0 X1 X2 s) (v74 X0 X1 X2 s)
def v168 (s : FastSt F) : FVec F S8x1 .f32 := k0_pay44 (v72 X0 X1 X2 s) (v74 X0 X1 X2 s) (v98 X0 X1 X2 s)

/-- One trip of the fast loop: the carried value and the distances after it, -/
def fastStep (s : FastSt F) : FastSt F :=
  ((k0_pay16 (v168 X0 X1 X2 s), k0_pay17 (v119 X0 X1 X2 s) (v164 X0 X1 X2 s), k0_pay18 (v140 X0 X1 X2 s) (v164 X0 X1 X2 s),
      k0_pay13 s.1.2.2.2 (v162 X0 X1 X2 s) (v164 X0 X1 X2 s)),
    k0_pay33 s.1.1 s.1.2.1 s.1.2.2.1 X0 X1 X2 s.2)
/-- and the row that it writes. -/
def fastRow (s : FastSt F) : FVec F S1x3 .f32 := k0_pay14 (v119 X0 X1 X2 s) (v140 X0 X1 X2 s) (v164 X0 X1 X2 s) (v168 X0 X1 X2 s)

def v90 (s : ExactSt F) : IVec S16x8x128 1 := k0_pay50 k0_pay20 s.1.1 s.1.2.1 s.1.2.2 X0 X1 X2 s.2
/-- One trip of the exact loop: the carried value and the distances after it, -/
def exactStep (s : ExactSt F) : ExactSt F :=
  ((k0_pay25 (k0_pay45 X0) (v90 X0 X1 X2 s) k0_pay51, k0_pay26 (k0_pay46 X1) (v90 X0 X1 X2 s), k0_pay27 (k0_pay47 X2) (v90 X0 X1 X2 s)),
    k0_pay49 s.1.1 s.1.2.1 s.1.2.2 X0 X1 X2 s.2)
/-- and the row that it writes. -/
def exactRow (s : ExactSt F) : FVec F S1x3 .f32 :=
  k0_pay28 (k0_pay45 X0) (k0_pay46 X1) (k0_pay47 X2) (v90 X0 X1 X2 s) k0_pay51

/-- The fast loop's start; -/
def fastInit : FastSt F := ((k0_pay7 (first X0), k0_pay8 (first X1), k0_pay9 (first X2), k0_pay10), k0_pay5)
/-- the exact loop's. -/
def exactInit : ExactSt F := ((k0_pay22 (first X0), k0_pay23 (first X1), k0_pay24 (first X2)), k0_pay21)

/-- The fast loop's state before trip `k`; -/
def fastSt (k : ℕ) : FastSt F := (fastStep X0 X1 X2)^[k] (fastInit X0 X1 X2)
/-- the exact loop's. -/
def exactSt (k : ℕ) : ExactSt F := (exactStep X0 X1 X2)^[k] (exactInit X0 X1 X2)

theorem fastSt_succ (k : ℕ) : fastSt X0 X1 X2 (k + 1) = fastStep X0 X1 X2 (fastSt X0 X1 X2 k) := Function.iterate_succ_apply' ..
theorem exactSt_succ (k : ℕ) : exactSt X0 X1 X2 (k + 1) = exactStep X0 X1 X2 (exactSt X0 X1 X2 k) := Function.iterate_succ_apply' ..

/-- An index of a one-row block from its column. -/
def col (j : Fin 3) : S1x3.Idx := fun | ⟨0, _⟩ => (0 : Fin 1) | ⟨1, _⟩ => j

/-- The centroids as the fast loop leaves them: row 0 the first point, row `k + 1` what trip `k` writes; -/
def fastOut (y : S4096x3.Idx) : Elt F .f32 :=
  match (y 0).val with
  | 0 => k0_pay4 (first X0) (first X1) (first X2) (col (y 1))
  | k + 1 => fastRow X0 X1 X2 (fastSt X0 X1 X2 k) (col (y 1))
/-- as the exact loop leaves them. -/
def exactOut (y : S4096x3.Idx) : Elt F .f32 :=
  match (y 0).val with
  | 0 => k0_pay4 (first X0) (first X1) (first X2) (col (y 1))
  | k + 1 => exactRow X0 X1 X2 (exactSt X0 X1 X2 k) (col (y 1))

/-- The conditional's word: whether some trip of the fast loop counted more than one maximum. -/
def tied : BitVec 1 :=
  Scalar.cmpi .ne (Scalar.extui (Scalar.cmpf .ogt (k0_pay19 (fastSt X0 X1 X2 4095).1.2.2.2) (FloatOps.ofBits .f32 0x3F800000#32)) : BitVec 32) 0#32

/-- What the kernel leaves in the centroids' array. -/
def fpsOut : S4096x3.Idx → Elt F .f32 := if tied X0 X1 X2 = 1#1 then exactOut X0 X1 X2 else fastOut X0 X1 X2

end Steps

/-! ## The body's triple -/

abbrev M0 : Memref sig .tc .vmem S16x8x128 .f32 := stage0_0 0
abbrev M1 : Memref sig .tc .vmem S16x8x128 .f32 := stage0_1 0
abbrev M2 : Memref sig .tc .vmem S16x8x128 .f32 := stage0_2 0
abbrev M3 : Memref sig .tc .vmem S4096x3 .f32 := stage0_3 0
abbrev M4 : Memref sig .tc .vmem S16x8x128 .f32 := Memref.whole cc0_scratch0

theorem zero3 : (![0, 0, 0] : Fin 3 → ℕ) = fun _ => 0 := by decide

omit [FloatOps F] [Named F] in
/-- A load of the first element of a coordinate array. -/
theorem fst_eq (X : FVec F S16x8x128 .f32) (inb) (j) :
    X ((Rect.unit (s := S16x8x128) ![0, 0, 0] S1x1x1.size inb).idx j) = first X j := by
  refine congrArg X (funext fun a => Fin.ext ?_)
  have h : (j a).val = 0 := by have := (j a).isLt; fin_cases a <;> simpa [S1x1x1] using this
  refine (show _ = (![0, 0, 0] : Fin 3 → ℕ) a + 1 * (j a).val from rfl).trans ?_
  rw [h]
  fin_cases a <;> rfl
omit [FloatOps F] [Named F] in
theorem fst0 (X : FVec F S16x8x128 .f32) (inb) :
    View.readAt (Elt F) M0.view (Rect.unit (s := S16x8x128) ![0, 0, 0] S1x1x1.size inb).toLoadRect X = first X :=
  funext fun j => fst_eq X inb j
omit [FloatOps F] [Named F] in
theorem fst1 (X : FVec F S16x8x128 .f32) (inb) :
    View.readAt (Elt F) M1.view (Rect.unit (s := S16x8x128) ![0, 0, 0] S1x1x1.size inb).toLoadRect X = first X :=
  funext fun j => fst_eq X inb j
omit [FloatOps F] [Named F] in
theorem fst2 (X : FVec F S16x8x128 .f32) (inb) :
    View.readAt (Elt F) M2.view (Rect.unit (s := S16x8x128) ![0, 0, 0] S1x1x1.size inb).toLoadRect X = first X :=
  funext fun j => fst_eq X inb j

/-- A load of a whole array. -/
abbrev rd {e : EltTy} (M : Memref sig .tc .vmem S16x8x128 e) (X : Bf (F := F) (0 : Dev nD) M) : Vec F S16x8x128 e :=
  View.readAt (Elt F) M.view (Rect.unit ![0, 0, 0] S16x8x128.size inb_S16x8x128_S16x8x128_0_0_0).toLoadRect X

omit [FloatOps F] [Named F] in
/-- It returns the array. -/
theorem ld0 (X : FVec F S16x8x128 .f32) : rd M0 X = X := Memref.readAt_unit_zero (Elt F) cc0_stg0_0 zero3 _ X
omit [FloatOps F] [Named F] in
theorem ld1 (X : FVec F S16x8x128 .f32) : rd M1 X = X := Memref.readAt_unit_zero (Elt F) cc0_stg1_0 zero3 _ X
omit [FloatOps F] [Named F] in
theorem ld2 (X : FVec F S16x8x128 .f32) : rd M2 X = X := Memref.readAt_unit_zero (Elt F) cc0_stg2_0 zero3 _ X
omit [FloatOps F] [Named F] in
theorem ld4 (X : FVec F S16x8x128 .f32) : rd M4 X = X := Memref.readAt_unit_zero (Elt F) cc0_scratch0 zero3 _ X

/-- The fast trip's result, in the functions above. -/
theorem tripR1 (c : Dev nD) (X0 X1 X2 : FVec F S16x8x128 .f32) (k : Fin k0_t1_loop.trips)
    (s : FastSt F) (f3 : FVec F S4096x3 .f32) :
    tripR_k0_t1 (F := F) Variants.none c none M0 (hstage0_0 0) M1 (hstage0_1 0) M2 (hstage0_2 0) M3 (hstage0_3 0) M4 (Memref.isWhole_whole _)
      X0 X1 X2 k s.1 f3 s.2 = (fastStep X0 X1 X2 s).1 := by
  unfold tripR_k0_t1 trip_k0_t1
  dsimp only
  refine (show _ = (fastStep (rd M0 X0) (rd M1 X1) (rd M2 X2) (s.1, rd M4 s.2)).1 from rfl).trans ?_
  rw [ld0, ld1, ld2, ld4]

theorem tripL1 (c : Dev nD) (X0 X1 X2 : FVec F S16x8x128 .f32) (k : Fin k0_t1_loop.trips)
    (s : FastSt F) (f3 : FVec F S4096x3 .f32) : ∃ h h',
    tripL_k0_t1 (F := F) Variants.none c none M0 (hstage0_0 0) M1 (hstage0_1 0) M2 (hstage0_2 0) M3 (hstage0_3 0) M4 (Memref.isWhole_whole _)
      X0 X1 X2 k s.1 f3 s.2 =
      ([⟨Rect.unit (k0_off1 k) ![1, 3] h, fastRow X0 X1 X2 s⟩], [⟨Rect.unit ![0, 0, 0] ![16, 8, 128] h', (fastStep X0 X1 X2 s).2⟩]) := by
  unfold tripL_k0_t1 trip_k0_t1
  dsimp only
  rw [show fastRow X0 X1 X2 s = fastRow (rd M0 X0) (rd M1 X1) (rd M2 X2) (s.1, rd M4 s.2) by rw [ld0, ld1, ld2, ld4],
    show (fastStep X0 X1 X2 s).2 = (fastStep (rd M0 X0) (rd M1 X1) (rd M2 X2) (s.1, rd M4 s.2)).2 by rw [ld0, ld1, ld2, ld4]]
  exact ⟨_, _, rfl⟩

/-- The exact trip's result, likewise. -/
theorem tripR2 (c : Dev nD) (X0 X1 X2 : FVec F S16x8x128 .f32) (k : Fin k0_t2_loop.trips)
    (s : ExactSt F) (f3 : FVec F S4096x3 .f32) :
    tripR_k0_t2 (F := F) Variants.none c none M0 (hstage0_0 0) M1 (hstage0_1 0) M2 (hstage0_2 0) M3 (hstage0_3 0) M4 (Memref.isWhole_whole _)
      X0 X1 X2 k s.1 f3 s.2 = (exactStep X0 X1 X2 s).1 := by
  unfold tripR_k0_t2 trip_k0_t2
  dsimp only
  refine (show _ = (exactStep (rd M0 X0) (rd M1 X1) (rd M2 X2) (s.1, rd M4 s.2)).1 from rfl).trans ?_
  rw [ld0, ld1, ld2, ld4]

theorem tripL2 (c : Dev nD) (X0 X1 X2 : FVec F S16x8x128 .f32) (k : Fin k0_t2_loop.trips)
    (s : ExactSt F) (f3 : FVec F S4096x3 .f32) : ∃ h h',
    tripL_k0_t2 (F := F) Variants.none c none M0 (hstage0_0 0) M1 (hstage0_1 0) M2 (hstage0_2 0) M3 (hstage0_3 0) M4 (Memref.isWhole_whole _)
      X0 X1 X2 k s.1 f3 s.2 =
      ([⟨Rect.unit (k0_off2 k) ![1, 3] h, exactRow X0 X1 X2 s⟩], [⟨Rect.unit ![0, 0, 0] ![16, 8, 128] h', (exactStep X0 X1 X2 s).2⟩]) := by
  unfold tripL_k0_t2 trip_k0_t2
  dsimp only
  rw [show exactRow X0 X1 X2 s = exactRow (rd M0 X0) (rd M1 X1) (rd M2 X2) (s.1, rd M4 s.2) by rw [ld0, ld1, ld2, ld4],
    show (exactStep X0 X1 X2 s).2 = (exactStep (rd M0 X0) (rd M1 X1) (rd M2 X2) (s.1, rd M4 s.2)).2 by rw [ld0, ld1, ld2, ld4]]
  exact ⟨_, _, rfl⟩

omit [FloatOps F] [Named F] in
/-- Row `k + 1` written: the rows up to `k + 1` are as they should be if those up to `k` were and the new one is. -/
theorem row_written (f3 : FVec F S4096x3 .f32) (G : S4096x3.Idx → Elt F .f32) (k : ℕ) {off : Fin 2 → ℕ} (hoff : off = ![k + 1, 0]) (h)
    (w : FVec F S1x3 .f32) (hf : ∀ y : S4096x3.Idx, (y 0).val ≤ k → f3 y = G y)
    (hw : ∀ y : S4096x3.Idx, (y 0).val = k + 1 → G y = w (col (y 1)))
    (y : S4096x3.Idx) (hy : (y 0).val ≤ k + 1) :
    M3.view.writes (Elt F) f3 [⟨Rect.unit off ![1, 3] h, w⟩] y = G y := by
  have hrd : ∀ g : FVec F S4096x3 .f32, M3.view.read (Elt F) g = g := fun g => View.read_whole (Val := Elt F) cc0_stg3_0 g
  refine (congrFun (hrd _) y).symm.trans ?_
  rcases Nat.lt_or_ge k (y 0).val with hk | hk
  · have hk' : (y 0).val = k + 1 := by omega
    exact (View.read_writes_cons_rows_of_mem (Val := Elt F) M3.view f3 h w [] y (col (y 1)) hoff (by simp [col]; omega) rfl).trans (hw y hk').symm
  · refine (View.read_writes_cons_rows_of_not_mem (Val := Elt F) (W := 1) M3.view f3 h w [] y hoff rfl (.inl (by omega))).trans ?_
    exact (congrFun (hrd _) y).trans (hf y hk)

omit [FloatOps F] [Named F] in
/-- The scratch overwritten whole. -/
theorem whole_written (f4 : FVec F S16x8x128 .f32) (h) (w : FVec F S16x8x128 .f32) :
    M4.view.writes (Elt F) f4 [⟨Rect.unit ![0, 0, 0] ![16, 8, 128] h, w⟩] = w := by
  rw [View.writes_cons, View.writes_nil]
  exact Memref.write_access_unit_zero_univ (Elt F) cc0_scratch0 zero3 h f4 w

/-- The fast loop's state before trip `k` as the run states it. -/
abbrev S1 (c : Dev nD) (X0 X1 X2 : FVec F S16x8x128 .f32) (G3 : FVec F S4096x3 .f32) (G4 : FVec F S16x8x128 .f32) (i) (k : ℕ) :=
  st_k0_t1 (F := F) Variants.none c none M0 (hstage0_0 0) M1 (hstage0_1 0) M2 (hstage0_2 0) M3 (hstage0_3 0) M4 (Memref.isWhole_whole _) X0 X1 X2 G3 G4 i k

/-- It is the iterate: carried value, distances, and the rows written. -/
theorem st1 (c : Dev nD) (X0 X1 X2 : FVec F S16x8x128 .f32) (G3 : FVec F S4096x3 .f32) (G4 : FVec F S16x8x128 .f32) (i)
    (h0 : (i, G4) = fastInit X0 X1 X2) (h3 : ∀ y : S4096x3.Idx, (y 0).val ≤ 0 → G3 y = fastOut X0 X1 X2 y) (k : ℕ) (hk : k ≤ k0_t1_loop.trips) :
    (S1 c X0 X1 X2 G3 G4 i k).1 = (fastSt X0 X1 X2 k).1
      ∧ M4.view.writes (Elt F) G4 (S1 c X0 X1 X2 G3 G4 i k).2.2 = (fastSt X0 X1 X2 k).2
      ∧ ∀ y : S4096x3.Idx, (y 0).val ≤ k → M3.view.writes (Elt F) G3 (S1 c X0 X1 X2 G3 G4 i k).2.1 y = fastOut X0 X1 X2 y := by
  induction k with
  | zero => exact ⟨congrArg Prod.fst h0, congrArg Prod.snd h0, h3⟩
  | succ k ih =>
    obtain ⟨e1, e4, e3⟩ := ih (by omega)
    have hs := st_k0_t1_succ (F := F) Variants.none c none M0 (hstage0_0 0) M1 (hstage0_1 0) M2 (hstage0_2 0) M3 (hstage0_3 0) M4 (Memref.isWhole_whole _) X0 X1 X2 G3 G4 i ⟨k, hk⟩
    dsimp only at hs
    unfold S1 at e1 e4 e3 ⊢
    rw [hs, e1, e4]
    obtain ⟨h, h', hL⟩ := tripL1 c X0 X1 X2 ⟨k, hk⟩ (fastSt X0 X1 X2 k) (M3.view.writes (Elt F) G3 (S1 c X0 X1 X2 G3 G4 i k).2.1)
    refine ⟨?_, ?_, fun y hy => ?_⟩
    · rw [fastSt_succ]; exact tripR1 c X0 X1 X2 ⟨k, hk⟩ _ _
    · refine (congrArg (fun L => M4.view.writes (Elt F) G4 (L ++ (S1 c X0 X1 X2 G3 G4 i k).2.2)) (congrArg Prod.snd hL)).trans ?_
      dsimp only
      rw [View.writes_append, whole_written, fastSt_succ]
    · refine (congrFun (congrArg (fun L => M3.view.writes (Elt F) G3 (L ++ (S1 c X0 X1 X2 G3 G4 i k).2.1)) (congrArg Prod.fst hL)) y).trans ?_
      dsimp only
      rw [View.writes_append]
      exact row_written _ _ k (k0_off1_eq ⟨k, hk⟩) h _ e3 (fun y hy => by unfold fastOut; rw [hy]) y hy

/-- The exact loop's state before trip `k` as the run states it. -/
abbrev S2 (c : Dev nD) (X0 X1 X2 : FVec F S16x8x128 .f32) (G3 : FVec F S4096x3 .f32) (G4 : FVec F S16x8x128 .f32) (i) (k : ℕ) :=
  st_k0_t2 (F := F) Variants.none c none M0 (hstage0_0 0) M1 (hstage0_1 0) M2 (hstage0_2 0) M3 (hstage0_3 0) M4 (Memref.isWhole_whole _) X0 X1 X2 G3 G4 i k

/-- It is the iterate: carried value, distances, and the rows written. -/
theorem st2 (c : Dev nD) (X0 X1 X2 : FVec F S16x8x128 .f32) (G3 : FVec F S4096x3 .f32) (G4 : FVec F S16x8x128 .f32) (i)
    (h0 : (i, G4) = exactInit X0 X1 X2) (h3 : ∀ y : S4096x3.Idx, (y 0).val ≤ 0 → G3 y = exactOut X0 X1 X2 y) (k : ℕ) (hk : k ≤ k0_t2_loop.trips) :
    (S2 c X0 X1 X2 G3 G4 i k).1 = (exactSt X0 X1 X2 k).1
      ∧ M4.view.writes (Elt F) G4 (S2 c X0 X1 X2 G3 G4 i k).2.2 = (exactSt X0 X1 X2 k).2
      ∧ ∀ y : S4096x3.Idx, (y 0).val ≤ k → M3.view.writes (Elt F) G3 (S2 c X0 X1 X2 G3 G4 i k).2.1 y = exactOut X0 X1 X2 y := by
  induction k with
  | zero => exact ⟨congrArg Prod.fst h0, congrArg Prod.snd h0, h3⟩
  | succ k ih =>
    obtain ⟨e1, e4, e3⟩ := ih (by omega)
    have hs := st_k0_t2_succ (F := F) Variants.none c none M0 (hstage0_0 0) M1 (hstage0_1 0) M2 (hstage0_2 0) M3 (hstage0_3 0) M4 (Memref.isWhole_whole _) X0 X1 X2 G3 G4 i ⟨k, hk⟩
    dsimp only at hs
    unfold S2 at e1 e4 e3 ⊢
    rw [hs, e1, e4]
    obtain ⟨h, h', hL⟩ := tripL2 c X0 X1 X2 ⟨k, hk⟩ (exactSt X0 X1 X2 k) (M3.view.writes (Elt F) G3 (S2 c X0 X1 X2 G3 G4 i k).2.1)
    refine ⟨?_, ?_, fun y hy => ?_⟩
    · rw [exactSt_succ]; exact tripR2 c X0 X1 X2 ⟨k, hk⟩ _ _
    · refine (congrArg (fun L => M4.view.writes (Elt F) G4 (L ++ (S2 c X0 X1 X2 G3 G4 i k).2.2)) (congrArg Prod.snd hL)).trans ?_
      dsimp only
      rw [View.writes_append, whole_written, exactSt_succ]
    · refine (congrFun (congrArg (fun L => M3.view.writes (Elt F) G3 (L ++ (S2 c X0 X1 X2 G3 G4 i k).2.1)) (congrArg Prod.fst hL)) y).trans ?_
      dsimp only
      rw [View.writes_append]
      exact row_written _ _ k (k0_off2_eq ⟨k, hk⟩) h _ e3 (fun y hy => by unfold exactOut; rw [hy]) y hy

theorem trips1 : k0_t1_loop.trips = 4095 := by decide +kernel
theorem trips2 : k0_t2_loop.trips = 4095 := by decide +kernel

omit [FloatOps F] [Named F] in
/-- The first row written. -/
theorem row0 (g3 : FVec F S4096x3 .f32) (h) (w : FVec F S1x3 .f32) (y : S4096x3.Idx) (hy : (y 0).val ≤ 0) :
    M3.view.writes (Elt F) g3 [⟨Rect.unit (s := S4096x3) ![0, 0] S1x3.size h, w⟩] y = w (col (y 1)) := by
  have hrd : ∀ g : FVec F S4096x3 .f32, M3.view.read (Elt F) g = g := fun g => View.read_whole (Val := Elt F) cc0_stg3_0 g
  refine (congrFun (hrd _) y).symm.trans ?_
  exact View.read_writes_cons_rows_of_mem (Val := Elt F) M3.view g3 h w [] y (col (y 1)) rfl (by simp [col]; omega) rfl

theorem fastOut0 (X0 X1 X2 : FVec F S16x8x128 .f32) (y : S4096x3.Idx) (hy : (y 0).val ≤ 0) :
    fastOut X0 X1 X2 y = k0_pay4 (first X0) (first X1) (first X2) (col (y 1)) := by
  unfold fastOut; rw [Nat.le_zero.mp hy]
theorem exactOut0 (X0 X1 X2 : FVec F S16x8x128 .f32) (y : S4096x3.Idx) (hy : (y 0).val ≤ 0) :
    exactOut X0 X1 X2 y = k0_pay4 (first X0) (first X1) (first X2) (col (y 1)) := by
  unfold exactOut; rw [Nat.le_zero.mp hy]

/-- The loop's row 0, written by the body's first store. -/
abbrev A3 (X0 X1 X2 : FVec F S16x8x128 .f32) (g3 : FVec F S4096x3 .f32) : FVec F S4096x3 .f32 :=
  M3.view.writes (Elt F) g3 [⟨Rect.unit (s := S4096x3) ![0, 0] S1x3.size inb_S4096x3_S1x3_0_0, k0_pay4 (first X0) (first X1) (first X2)⟩]

/-- The fast loop's end, from the body's state at its start. -/
theorem end1 (c : Dev nD) (X0 X1 X2 : FVec F S16x8x128 .f32) (g3 : FVec F S4096x3 .f32) (g4 : FVec F S16x8x128 .f32) (h) :
    (S1 c X0 X1 X2 (A3 X0 X1 X2 g3) (M4.view.writes (Elt F) g4 [⟨Rect.unit ![0, 0, 0] ![16, 8, 128] h, k0_pay5⟩])
        (k0_pay7 (first X0), k0_pay8 (first X1), k0_pay9 (first X2), k0_pay10) 4095).1 = (fastSt X0 X1 X2 4095).1
    ∧ ∀ y : S4096x3.Idx, M3.view.writes (Elt F) (A3 X0 X1 X2 g3) (S1 c X0 X1 X2 (A3 X0 X1 X2 g3) (M4.view.writes (Elt F) g4 [⟨Rect.unit ![0, 0, 0] ![16, 8, 128] h, k0_pay5⟩])
        (k0_pay7 (first X0), k0_pay8 (first X1), k0_pay9 (first X2), k0_pay10) 4095).2.1 y = fastOut X0 X1 X2 y := by
  have := st1 c X0 X1 X2 (A3 X0 X1 X2 g3) (M4.view.writes (Elt F) g4 [⟨Rect.unit ![0, 0, 0] ![16, 8, 128] h, k0_pay5⟩])
        (k0_pay7 (first X0), k0_pay8 (first X1), k0_pay9 (first X2), k0_pay10) (by rw [whole_written]; rfl)
        (fun y hy => (row0 g3 _ _ y hy).trans (fastOut0 X0 X1 X2 y hy).symm) 4095 (le_of_eq trips1.symm)
  exact ⟨this.1, fun y => this.2.2 y (Nat.le_of_lt_succ (y 0).isLt)⟩

/-- The exact loop's end, from any rows of which the first is right. -/
theorem end2 (c : Dev nD) (X0 X1 X2 : FVec F S16x8x128 .f32) (g3 : FVec F S4096x3 .f32) (g4 : FVec F S16x8x128 .f32)
    (h3 : ∀ y : S4096x3.Idx, (y 0).val ≤ 0 → g3 y = exactOut X0 X1 X2 y) (h4 : g4 = k0_pay21) (y : S4096x3.Idx) :
    M3.view.writes (Elt F) g3 (S2 c X0 X1 X2 g3 g4 (k0_pay22 (first X0), k0_pay23 (first X1), k0_pay24 (first X2)) 4095).2.1 y
      = exactOut X0 X1 X2 y :=
  (st2 c X0 X1 X2 g3 g4 _ (by rw [h4]; rfl) h3 4095 (le_of_eq trips2.symm)).2.2 y (Nat.le_of_lt_succ (y 0).isLt)

/-- The body on core `c`. -/
theorem body (c : Dev nD) (X0 X1 X2 : FVec F S16x8x128 .f32) (g3 : FVec F S4096x3 .f32) (g4 : FVec F S16x8x128 .f32) :
    iprop(pt c M0 X0 ∗ pt c M1 X1 ∗ pt c M2 X2 ∗ pt c M3 g3 ∗ pt c M4 g4)
      ⊢ wp frame (wpE (defs₀ (F := F)) Variants.none (c : Thread nD τ) none) Set.univ
          (cc0__fps_kernel (F := F) M0 (hstage0_0 0) M1 (hstage0_1 0) M2 (hstage0_2 0) M3 (hstage0_3 0) M4 (Memref.isWhole_whole _))
          (fun _ => iprop(pt c M0 X0 ∗ pt c M1 X1 ∗ pt c M2 X2 ∗ (∃ f, pt c M3 f ∗ ⌜f = fpsOut X0 X1 X2⌝) ∗ (∃ g, pt c M4 g))) := by
  iintro ⟨H0, H1, H2, H3, H4⟩
  sl_exec!
  have hT1 : Scf.trips k0_t1_loop.lb k0_t1_loop.ub k0_t1_loop.st = 4095 := trips1
  have hT2 : Scf.trips k0_t2_loop.lb k0_t2_loop.ub k0_t2_loop.st = 4095 := trips2
  obtain ⟨eR, eO⟩ := end1 c X0 X1 X2 g3 (View.junk (Val := Elt F) M4.view) inb_S16x8x128_S16x8x128_0_0_0
  have hv : body.sl.v28 c X0 X1 X2 g3 = tied X0 X1 X2 := by
    unfold body.sl.v28 body.sl.v27 body.sl.v26 tied
    rw [fst0, fst1, fst2, hT1, ← eR]
    rfl
  by_cases ht : body.sl.v28 c X0 X1 X2 g3 = 1#1
  · sl_exec!
    sl_step
    isplitl [H0]; · iexact H0
    isplitl [H1]; · iexact H1
    isplitl [H2]; · iexact H2
    isplitl [H3]
    · iexists _
      isplitl [H3]; · iexact H3
      ipureintro
      rw [fpsOut, if_pos (hv ▸ ht)]
      funext y
      rw [View.writes_append, fst0, fst1, fst2, hT2]
      refine end2 c X0 X1 X2 _ _ (fun y hy => ?_) ?_ y
      · rw [View.writes_append]
        exact (eO y).trans ((fastOut0 X0 X1 X2 y hy).trans (exactOut0 X0 X1 X2 y hy).symm)
      · rw [View.writes_cons]
        exact Memref.write_access_unit_zero_univ (Elt F) cc0_scratch0 zero3 inb_S16x8x128_S16x8x128_0_0_0 _ _
    iexists _; iexact H4
  · sl_exec!
    sl_step
    isplitl [H0]; · iexact H0
    isplitl [H1]; · iexact H1
    isplitl [H2]; · iexact H2
    isplitl [H3]
    · iexists _
      isplitl [H3]; · iexact H3
      ipureintro
      rw [fpsOut, if_neg (hv ▸ ht)]
      funext y
      rw [← eO y, View.writes_append, fst0, fst1, fst2, hT1]
      rfl
    iexists _; iexact H4

end Cert.KernelIdeal.Fps
-- ==== Proof.Group.lean ====
/-
  The grouping kernel (region 1) run on one core, for any staging buffers: from one block of points and the transposed centroids it
  returns with both as they were and the block of weights at `groupOut`, a function of the two.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import Idealize.ShloMosaic.Lib.WritesUnit

@[expose] public section

set_option maxRecDepth 16384

noncomputable section

namespace Cert.KernelIdeal.Group

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The block of weights from a block of points and the transposed centroids. -/
def groupOut (X0 : FVec F S1024x3 .f32) (X1 : FVec F S3x4096 .f32) : FVec F S1024x4096 .f32 :=
  k1_pay1 (k1_pay2 X0 X1) (k1_pay7 X0 X1) (k1_pay8 X0 X1)

omit [FloatOps F] [Named F] in
/-- A whole load of a block of points reads the block. -/
theorem load0 (M : Memref sig .tc .vmem S1024x3 .f32) (f : M.view.ty.Contents (Elt F)) (inb) :
    M.view.readAt (Elt F) (Rect.unit (s := S1024x3) ![0, 0] S1024x3.size inb).toLoadRect f = M.view.read (Elt F) f := by
  funext x
  rw [View.readAt_apply]
  refine congrArg _ (funext fun a => Fin.ext ?_)
  fin_cases a <;> (rw [LoadRect.idx_apply]; exact (Nat.zero_add _).trans (Nat.one_mul _))

omit [FloatOps F] [Named F] in
/-- A whole load of the centroids reads them. -/
theorem load1 (M : Memref sig .tc .vmem S3x4096 .f32) (f : M.view.ty.Contents (Elt F)) (inb) :
    M.view.readAt (Elt F) (Rect.unit (s := S3x4096) ![0, 0] S3x4096.size inb).toLoadRect f = M.view.read (Elt F) f := by
  funext x
  rw [View.readAt_apply]
  refine congrArg _ (funext fun a => Fin.ext ?_)
  fin_cases a <;> (rw [LoadRect.idx_apply]; exact (Nat.zero_add _).trans (Nat.one_mul _))

omit [FloatOps F] [Named F] in
/-- A whole store of a block of weights leaves what was stored. -/
theorem store2 (M : Memref sig .tc .vmem S1024x4096 .f32) (f : M.view.ty.Contents (Elt F)) (inb) (w : FVec F S1024x4096 .f32) :
    M.view.read (Elt F) (M.view.writes (Elt F) f [⟨Rect.unit (s := S1024x4096) ![0, 0] S1024x4096.size inb, w⟩]) = w := by
  funext x
  refine View.read_writes_cons_unit_of_mem (Val := Elt F) M.view f inb w [] x x rfl fun a => ?_
  fin_cases a <;> exact (Nat.zero_add _).symm

/-- The body on core `c` at any grid point. -/
theorem body (c : Dev nD) (i : grid1.Coords) (M0 : Memref sig .tc .vmem S1024x3 .f32) (h0 : M0.IsWhole)
    (M1 : Memref sig .tc .vmem S3x4096 .f32) (h1 : M1.IsWhole) (M2 : Memref sig .tc .vmem S1024x4096 .f32) (h2 : M2.IsWhole)
    (X0 : FVec F S1024x3 .f32) (X1 : FVec F S3x4096 .f32) (X2 : FVec F S1024x4096 .f32) (Q : PUnit → sProp 𝕄) :
    iprop(owns (c : Thread nD τ) M0 fullShare X0 ∗ owns (c : Thread nD τ) M1 fullShare X1 ∗ owns (c : Thread nD τ) M2 fullShare X2
        ∗ (iprop(owns (c : Thread nD τ) M0 fullShare X0 ∗ owns (c : Thread nD τ) M1 fullShare X1
            ∗ owns (c : Thread nD τ) M2 fullShare (groupOut X0 X1)) -∗ Q ⟨⟩))
      ⊢ wp frame (wpE (defs₀ (F := F)) Variants.none (c : Thread nD τ) none) Set.univ
          (cc1__group_kernel (F := F) i M0 h0 M1 h1 M2 h2) Q := by
  unfold owns
  iintro ⟨⟨%f0, %e0, H0⟩, ⟨%f1, %e1, H1⟩, ⟨%f2, -, H2⟩, Hk⟩
  sl_exec!
  sl_step
  iapply Hk
  isplitl [H0]
  · iexists f0; isplitr; · ipureintro; exact e0
    iexact H0
  isplitl [H1]
  · iexists f1; isplitr; · ipureintro; exact e1
    iexact H1
  iexists _
  isplitr; swap; (· iexact H2)
  ipureintro
  subst e0 e1
  refine (store2 M2 _ inb_S1024x4096_S1024x4096_0_0 _).trans ?_
  rw [← load0 M0 f0 inb_S1024x3_S1024x3_0_0, ← load1 M1 f1 inb_S3x4096_S3x4096_0_0]
  rfl

end Cert.KernelIdeal.Group
-- ==== Proof.KRegions.lean ====
/-
  The two kernel regions over the thread state "every unscoped buffer at a valuation, and the core's `owes`": the proof data of each
  pipeline at an entry valuation, the body obligations, and the regions entered from a valuation and left with the result's array
  at what the pipeline writes back.
-/
module

public import proofs.«01_k».proof.Proof.FpsRun
public import proofs.«01_k».proof.Proof.Group
public import proofs.«01_k».proof.Proof.Gen.KernelIdeal.Regions
public import Idealize.ShloMosaic.Lib.Pipeline.FrameBody
public import Idealize.ShloMosaic.Lib.Pipeline.RegionsLoop

@[expose] public section

set_option maxRecDepth 16384

noncomputable section

namespace Cert.KernelIdeal.Reg

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The contents of every buffer of every core. -/
abbrev Vals (F : FTy → Type) : Type := (c : Dev nD) → (b : Ref sig .tc) → Buf (Elt F) ((c : Thread nD τ).loc b)

section Data
variable (V : Vals F)

/-! ## The farthest-point kernel's pipeline -/

/-- The proof data of region 0 from valuation `V`: after the one point the three coordinate buffers as fetched, the
    centroids' buffer at the kernel's function of them. -/
def dat0 (c : Dev nD) : Dat τ (Elt F) Unit ℕ (UR sig nD τ) ℕ cfg0 c where
  A w := V c (Pipeline.arrRef spec0 w)
  after w _ := match w with
    | ⟨0, _⟩ => ((cfg0.win 0).blk t0_0).view.read (Elt F) (V c main_v3)
    | ⟨1, _⟩ => ((cfg0.win 1).blk t0_0).view.read (Elt F) (V c main_v5)
    | ⟨2, _⟩ => ((cfg0.win 2).blk t0_0).view.read (Elt F) (V c main_v7)
    | ⟨3, _⟩ => Fps.fpsOut (((cfg0.win 0).blk t0_0).view.read (Elt F) (V c main_v3)) (((cfg0.win 1).blk t0_0).view.read (Elt F) (V c main_v5))
        (((cfg0.win 2).blk t0_0).view.read (Elt F) (V c main_v7))
  Φ _ := Pipeline.scopedRest (Ix := Unit) (Name := ℕ) (U := UR sig nD τ) (Lvl := ℕ) (Val := Elt F) spec0 c
  q _ := fullShare
  owed _ := 0

/-- Each coordinate buffer holds its array's block when the body runs. -/
theorem before0_0 (c : Dev nD) (d) : (dat0 V c).before 0 t0_0 d = ((cfg0.win 0).blk t0_0).view.read (Elt F) (V c main_v3) := by
  unfold Dat.before; rw [if_pos (by decide)]; rfl
theorem before0_1 (c : Dev nD) (d) : (dat0 V c).before 1 t0_0 d = ((cfg0.win 1).blk t0_0).view.read (Elt F) (V c main_v5) := by
  unfold Dat.before; rw [if_pos (by decide)]; rfl
theorem before0_2 (c : Dev nD) (d) : (dat0 V c).before 2 t0_0 d = ((cfg0.win 2).blk t0_0).view.read (Elt F) (V c main_v7) := by
  unfold Dat.before; rw [if_pos (by decide)]; rfl

/-- The body, with what follows it. -/
theorem fps_body (c : Dev nD) (X0 X1 X2 : FVec F S16x8x128 .f32) (g3 : FVec F S4096x3 .f32) (g4 : FVec F S16x8x128 .f32) (Q : PUnit → sProp 𝕄) :
    iprop(((c : Thread nD τ).loc cc0_stg0_0 ↦{fullShare} X0) ∗ ((c : Thread nD τ).loc cc0_stg1_0 ↦{fullShare} X1)
        ∗ ((c : Thread nD τ).loc cc0_stg2_0 ↦{fullShare} X2) ∗ ((c : Thread nD τ).loc cc0_stg3_0 ↦{fullShare} g3)
        ∗ ((c : Thread nD τ).loc cc0_scratch0 ↦{fullShare} g4)
        ∗ (iprop(((c : Thread nD τ).loc cc0_stg0_0 ↦{fullShare} X0) ∗ ((c : Thread nD τ).loc cc0_stg1_0 ↦{fullShare} X1)
          ∗ ((c : Thread nD τ).loc cc0_stg2_0 ↦{fullShare} X2) ∗ ((c : Thread nD τ).loc cc0_stg3_0 ↦{fullShare} Fps.fpsOut X0 X1 X2)
          ∗ (∃ g : Buf (Elt F) ((c : Thread nD τ).loc cc0_scratch0), (c : Thread nD τ).loc cc0_scratch0 ↦{fullShare} g)) -∗ Q ⟨⟩))
      ⊢ wp frame (wpE (defs₀ (F := F)) Variants.none (c : Thread nD τ) none) Set.univ
          (cc0__fps_kernel (F := F) Fps.M0 (hstage0_0 0) Fps.M1 (hstage0_1 0) Fps.M2 (hstage0_2 0) Fps.M3 (hstage0_3 0) Fps.M4 (Memref.isWhole_whole _)) Q := by
  have hb := Fps.body c X0 X1 X2 g3 g4
  iintro ⟨H0, H1, H2, H3, H4, Hk⟩
  iapply wp_wand $$ [H0 H1 H2 H3 H4]
  · iapply hb
    unfold Fps.pt
    simp only [Memref.view_whole, View.set_whole]
    isplitl [H0]; · iexact H0
    isplitl [H1]; · iexact H1
    isplitl [H2]; · iexact H2
    isplitl [H3]; · iexact H3
    iexact H4
  unfold Fps.pt
  simp only [Memref.view_whole, View.set_whole]
  iintro %u ⟨H0, H1, H2, ⟨%f, H3, %hf⟩, H4⟩
  subst hf
  iapply Hk
  isplitl [H0]; · iexact H0
  isplitl [H1]; · iexact H1
  isplitl [H2]; · iexact H2
  isplitl [H3]; · iexact H3
  iexact H4

/-- The obligation of region 0's body. -/
theorem obligation0 (c : Dev nD) : BodyObligation (dat0 V c) (defs₀ (F := F)) Variants.none () Set.univ := fun t => by
  obtain rfl := fin_N0 t
  rw [bigSep_W0, bigSep_W0]
  simp only [owns_whole_eq]
  rw [show (dat0 V c).Φ t0_0.castSucc = Pipeline.scopedRest (Ix := Unit) (Name := ℕ) (U := UR sig nD τ) (Lvl := ℕ) (Val := Elt F) spec0 c from rfl,
    show (dat0 V c).Φ t0_0.succ = Pipeline.scopedRest (Ix := Unit) (Name := ℕ) (U := UR sig nD τ) (Lvl := ℕ) (Val := Elt F) spec0 c from rfl,
    show (dat0 V c).owesAt () t0_0.succ = (dat0 V c).owesAt () t0_0.castSucc from rfl, scopedRest0_eq]
  iintro ⟨⟨⟨%g4, H4⟩, HR⟩, Howes, ⟨%d0, %f0, %hf0, H0⟩, ⟨%d1, %f1, %hf1, H1⟩, ⟨%d2, %f2, %hf2, H2⟩, ⟨%d3, %f3, -, H3⟩⟩
  rw [before0_0] at hf0; rw [before0_1] at hf1; rw [before0_2] at hf2
  subst hf0 hf1 hf2
  iapply (fps_body c _ _ _ f3 g4 _)
  isplitl [H0]; · iexact H0
  isplitl [H1]; · iexact H1
  isplitl [H2]; · iexact H2
  isplitl [H3]; · iexact H3
  isplitl [H4]; · iexact H4
  iintro ⟨H0, H1, H2, H3, H4⟩
  isplitl [H4 HR]
  · isplitl [H4]; · iexact H4
    iexact HR
  isplitl [Howes]; · iexact Howes
  isplitl [H0]; · iexists _; isplitr; swap; (· iexact H0); ipureintro; dsimp only [dat0]
  isplitl [H1]; · iexists _; isplitr; swap; (· iexact H1); ipureintro; dsimp only [dat0]
  isplitl [H2]; · iexists _; isplitr; swap; (· iexact H2); ipureintro; dsimp only [dat0]
  iexists _; isplitr; swap; (· iexact H3); ipureintro; dsimp only [dat0]

/-! ## The grouping kernel's pipeline -/

/-- The proof data of region 1 from valuation `V`: after point `t` the block of points and the centroids as fetched, the block
    of weights at the kernel's function of them. -/
def dat1 (c : Dev nD) : Dat τ (Elt F) Unit ℕ (UR sig nD τ) ℕ cfg1 c where
  A w := V c (Pipeline.arrRef spec1 w)
  after w t := match w with
    | ⟨0, _⟩ => ((cfg1.win 0).blk t).view.read (Elt F) (V c main_arg0)
    | ⟨1, _⟩ => ((cfg1.win 1).blk t).view.read (Elt F) (V c main_v9)
    | ⟨2, _⟩ => Group.groupOut (((cfg1.win 0).blk t).view.read (Elt F) (V c main_arg0)) (((cfg1.win 1).blk t).view.read (Elt F) (V c main_v9))
  Φ _ := Pipeline.scopedRest (Ix := Unit) (Name := ℕ) (U := UR sig nD τ) (Lvl := ℕ) (Val := Elt F) spec1 c
  q _ := fullShare
  owed _ := 0

/-- Each input buffer holds its array's block when the body runs, fetched there or kept from an earlier point. -/
theorem before1_0 (c : Dev nD) (t : Fin cfg1.N) (d) : (dat1 V c).before 0 t d = ((cfg1.win 0).blk t).view.read (Elt F) (V c main_arg0) :=
  ((dat1 V c).before_in_eq_fetched 0 rfl (fun _ => rfl) (fun _ _ _ => rfl) (fun _ => rfl) t d).trans rfl
theorem before1_1 (c : Dev nD) (t : Fin cfg1.N) (d) : (dat1 V c).before 1 t d = ((cfg1.win 1).blk t).view.read (Elt F) (V c main_v9) :=
  ((dat1 V c).before_in_eq_fetched 1 rfl (fun _ => rfl) (fun _ _ _ => rfl) (fun _ => rfl) t d).trans rfl

/-- The obligation of region 1's body, at every grid point alike. -/
theorem obligation1 (c : Dev nD) : BodyObligation (dat1 V c) (defs₀ (F := F)) Variants.none () Set.univ := fun t => by
  rw [bigSep_W1, bigSep_W1]
  rw [show (dat1 V c).Φ t.succ = (dat1 V c).Φ t.castSucc from rfl,
    show (dat1 V c).owesAt () t.succ = (dat1 V c).owesAt () t.castSucc from rfl]
  iintro ⟨HΦ, Howes, ⟨%d0, H0⟩, ⟨%d1, H1⟩, ⟨%d2, H2⟩⟩
  rw [before1_0, before1_1]
  iapply (Group.body c (grid1.coords t) (win1_0.stage (cfg1.slots t 0)) (hstage1_0 ((cfg1.slots t 0).cast nbuf1_0)) (win1_1.stage (cfg1.slots t 1))
    (hstage1_1 ((cfg1.slots t 1).cast nbuf1_1)) (win1_2.stage (cfg1.slots t 2)) (hstage1_2 ((cfg1.slots t 2).cast nbuf1_2)) _ _ _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

end Data

/-! ## The regions over the thread state -/

/-- The proof data of both pipelines: region 0 from `V`, region 1 from `V'`. -/
def pdats (V V' : Vals F) : (p : Fin 2) → (c : Dev nD) → Dat τ (Elt F) Unit ℕ (UR sig nD τ) ℕ (cfgs p) c
  | ⟨0, _⟩ => fun c => dat0 V c
  | ⟨1, _⟩ => fun c => dat1 V' c

/-- No core owes another anything: no level is assigned. -/
abbrev L : GSem nD τ sig → Finset Unit := fun _ => ∅
abbrev lv : GSem nD τ sig → Unit → ℕ := fun _ _ => 0

/-- What rides beside the buffers: the core's `owes`. -/
abbrev R (c : Dev nD) : sProp 𝕄 := iprop(∃ W, owes (c : Thread nD τ) (0 : CellTallies nD τ sig Unit) W)

variable (V V' Vp : Vals F)

-- unification meets the pinned configurations only when it may unfold plain definitions in a metavariable's type
set_option backward.isDefEq.respectTransparency.types false in
/-- Region 0, entered from `V` and left at any `Vp` that has the centroids' array at what the pipeline leaves and agrees with `V`
    elsewhere. -/
def reg0 (hout : ∀ c, Vp c main_v8 = (dat0 V c).arrAt 3 cfg0.N) (hne : ∀ c (b : Ref sig .tc), b ≠ main_v8 → Vp c b = V c b) :
    Pipeline.RegionSeg (pcfgs (F := F)) adm (pdats V V') () defs₀ Variants.none L lv 0 where
  win := launch0.win.to₀
  block_pos := launch0.block_pos
  stage_whole := launch0.stage_whole
  K := PEmpty
  osem k := k.elim
  ho := Pipeline.OwnSemFacts.none _
  hbody c := (obligation0 V c).loose
  hwaits := Pipeline.hwaits_of_owed_zero _ _ _ _ L lv 0 fun _ _ => rfl
  pre c := iprop(unscopedBufs c (V c) ∗ R c)
  post c := iprop(unscopedBufs c (Vp c) ∗ R c)
  X _ := BI.emp
  Y _ := BI.emp
  Z c := Pipeline.unscopedRest (Ix := Unit) (Name := ℕ) (U := UR sig nD τ) (Lvl := ℕ) spec0 c (V c)
  hentry c := by
    rw [Pipeline.ownSems0_none]
    have hsplit := Pipeline.arrays_of_unscopedBufs (p := 0) (pcfgs (F := F)) adm (pdats V V') launch0.win launch0.arr_whole c
      ((pdats V V' 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V V' 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (pdats V V' 0 c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats V V') ((pdats V V' 0 c).share_full fun _ => rfl) (V c) (Vp c) ((pdats V V' 0 c).arrAt · cfg0.N)
      (fun w => by
        fin_cases w
        · exact ((pdats V V' 0 c).arrAt_in 0 rfl _).trans (hne c main_v3 (by decide)).symm
        · exact ((pdats V V' 0 c).arrAt_in 1 rfl _).trans (hne c main_v5 (by decide)).symm
        · exact ((pdats V V' 0 c).arrAt_in 2 rfl _).trans (hne c main_v7 (by decide)).symm
        · exact (hout c).symm)
      (fun b hb => hne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

-- as for region 0
set_option backward.isDefEq.respectTransparency.types false in
/-- Region 1, likewise: entered from `V'`, left with the weights' array at what the pipeline leaves. -/
def reg1 (hout : ∀ c, Vp c main_v10 = (dat1 V' c).arrAt 2 cfg1.N) (hne : ∀ c (b : Ref sig .tc), b ≠ main_v10 → Vp c b = V' c b) :
    Pipeline.RegionSeg (pcfgs (F := F)) adm (pdats V V') () defs₀ Variants.none L lv 1 where
  win := launch1.win.to₀
  block_pos := launch1.block_pos
  stage_whole := launch1.stage_whole
  K := PEmpty
  osem k := k.elim
  ho := Pipeline.OwnSemFacts.none _
  hbody c := (obligation1 V' c).loose
  hwaits := Pipeline.hwaits_of_owed_zero _ _ _ _ L lv 1 fun _ _ => rfl
  pre c := iprop(unscopedBufs c (V' c) ∗ R c)
  post c := iprop(unscopedBufs c (Vp c) ∗ R c)
  X _ := BI.emp
  Y _ := BI.emp
  Z c := Pipeline.unscopedRest (Ix := Unit) (Name := ℕ) (U := UR sig nD τ) (Lvl := ℕ) spec1 c (V' c)
  hentry c := by
    rw [Pipeline.ownSems0_none]
    have hsplit := Pipeline.arrays_of_unscopedBufs (p := 1) (pcfgs (F := F)) adm (pdats V V') launch1.win launch1.arr_whole c
      ((pdats V V' 1 c).share_full fun _ => rfl) (V' c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V V' 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdats V V' 1 c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats V V') ((pdats V V' 1 c).share_full fun _ => rfl) (V' c) (Vp c) ((pdats V V' 1 c).arrAt · cfg1.N)
      (fun w => by
        fin_cases w
        · exact ((pdats V V' 1 c).arrAt_in 0 rfl _).trans (hne c main_arg0 (by decide)).symm
        · exact ((pdats V V' 1 c).arrAt_in 1 rfl _).trans (hne c main_v9 (by decide)).symm
        · exact (hout c).symm)
      (fun b hb => hne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Reg
-- ==== Proof.KRun.lean ====
/-
  The kernel program's run: from any memory every fair execution ends without fault, with the argument as it was, every semaphore
  counter at zero, and the two results' arrays at what the two pipelines write back.
-/
module

public import proofs.«01_k».proof.Proof.KRegions

@[expose] public section

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg cellOf)

variable {F : FTy → Type} [FloatOps F] [Named F]

local notation "𝕄" => MT nD τ sig Unit (Elt F) ℕ (UR sig nD τ) ℕ

variable (m : (ℓ : Loc nD τ sig) → Buf (Elt F) ℓ)

/-- What the regions leave, from the centroids' array and the weights' array on each core. -/
def mkOuts (a : (c : Dev nD) → Buf (Elt F) ((c : Thread nD τ).loc main_v8)) (b : (c : Dev nD) → Buf (Elt F) ((c : Thread nD τ).loc main_v10)) :
    Outs (F := F) := fun _ r c =>
  if h : r = main_v8 then h ▸ a c else if h : r = main_v10 then h ▸ b c else m ((c : Thread nD τ).loc r)

theorem mkOuts_v8 (a b) (n : ℕ) (c : Dev nD) : mkOuts m a b n main_v8 c = a c := dif_pos rfl
theorem mkOuts_v10 (a b) (n : ℕ) (c : Dev nD) : mkOuts m a b n main_v10 c = b c := (dif_neg (by decide)).trans (dif_pos rfl)

/-- The buffers when region 0 is entered: the launch memory, the first host operations run. -/
abbrev VA : Reg.Vals F := fun c b => V1 m c b
/-- The centroids' array after region 0. -/
def cents (c : Dev nD) : Buf (Elt F) ((c : Thread nD τ).loc main_v8) := (Reg.dat0 (VA m) c).arrAt 3 cfg0.N
/-- The buffers when region 1 is entered: the centroids written and transposed. -/
abbrev VB : Reg.Vals F := fun c b => V3 m (mkOuts m (cents m) fun c => m ((c : Thread nD τ).loc main_v10)) c b
/-- The weights' array after region 1. -/
def weights (c : Dev nD) : Buf (Elt F) ((c : Thread nD τ).loc main_v10) := (Reg.dat1 (VB m) c).arrAt 2 cfg1.N
/-- What both regions leave. -/
abbrev outs : Outs (F := F) := mkOuts m (cents m) (weights m)

/-- Region 1's entry does not depend on what it leaves. -/
theorem V3_outs (c : Dev nD) : V3 m (outs m) c = V3 m (mkOuts m (cents m) fun c => m ((c : Thread nD τ).loc main_v10)) c := by
  exact congrArg (fun x => StableHlo.after hostOps1 (Function.update (V1 m c) (Proc.devRef .tc main_v8) x))
    ((mkOuts_v8 m _ _ 2 c).trans (mkOuts_v8 m _ _ 2 c).symm)

/-- The two regions, between the valuations of the program. -/
def R0 := Reg.reg0 (VA m) (VB m) (fun c b => V2 m (outs m) c b)
  (fun c => (Function.update_self (Proc.devRef .tc main_v8) (outs m 2 main_v8 c) (V1 m c)).trans (mkOuts_v8 m _ _ 2 c))
  (fun c b h => V2_of m (outs m) c b (by simpa using h))
def R1 := Reg.reg1 (VA m) (VB m) (fun c b => V4 m (outs m) c b)
  (fun c => (Function.update_self (Proc.devRef .tc main_v10) (outs m 4 main_v10 c) (V3 m (outs m) c)).trans (mkOuts_v10 m _ _ 4 c))
  (fun c b h => (V4_of m (outs m) c b (by simpa using h)).trans (congrFun (V3_outs m c) b))

/-- The end of the program's valuations at the results. -/
theorem V4_v8 (c : Dev nD) : V4 m (outs m) c main_v8 = cents m c :=
  (V4_of m (outs m) c main_v8 (by decide)).trans <| (V3_of m (outs m) c main_v8 (by decide)).trans <|
    (Function.update_self (Proc.devRef .tc main_v8) (outs m 2 main_v8 c) (V1 m c)).trans (mkOuts_v8 m _ _ 2 c)
theorem V4_v10 (c : Dev nD) : V4 m (outs m) c main_v10 = weights m c :=
  (Function.update_self (Proc.devRef .tc main_v10) (outs m 4 main_v10 c) (V3 m (outs m) c)).trans (mkOuts_v10 m _ _ 4 c)

set_option backward.isDefEq.respectTransparency.types false in
/-- The run of the whole program, results and argument read at the end. -/
theorem run_main (ρ : Dev nD → PrngReg) :
    θ_run defs (onTc (τ := τ) (main (F := F))) ⟨m, fun _ => 0, ρ⟩ (fun r => (∀ c : Dev nD,
        r.2.mem ((c.tc : Thread nD τ).loc main_v8) = cents m c ∧ r.2.mem ((c.tc : Thread nD τ).loc main_v10) = weights m c
        ∧ r.2.mem ((c.tc : Thread nD τ).loc main_arg0) = m ((c.tc : Thread nD τ).loc main_arg0)) ∧ r.2.sem = fun _ => 0) := by
  refine Pipeline.θ_run_regions_kit_dev_sems (pcfgs (F := F)) adm (Reg.pdats (VA m) (VB m)) () cellOf_inj
    (emb₁ : Emb (UR sig nD τ) (MT nD τ sig Unit (Elt F) ℕ (UR sig nD τ) ℕ)) defs₀ Variants.none Reg.L Reg.lv m ρ main
    (segs m (outs m) Variants.none Reg.L Reg.lv (fun _ c => Reg.R c) () (Reg.pdats (VA m) (VB m)) (R0 m) (R1 m))
    (fun c Q => by
      rewrite [main_chain c, Seg.run_eq_chain,
        show (segs m (outs m) Variants.none Reg.L Reg.lv (fun _ c => Reg.R c) () (Reg.pdats (VA m) (VB m)) (R0 m) (R1 m) c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) (fun _ => 0) (fun _ _ => rfl) (fun _ => BI.emp)
    (initOf (Pipeline.cells cfgs cellOf_inj) (Pipeline.launchToks cfgs cellOf_inj)) ?_
    (T₀ := fun c => iprop(StableHlo.held (c : Thread nD τ) (Pipeline.ucRefs τ sig) (V0 m c) ∗ Reg.R c))
    (Tₙ := fun c => StableHlo.held (c : Thread nD τ) (Pipeline.ucRefs τ sig) (V4 m (outs m) c))
    (hch := fun c => ⟨.rfl, ?_, ?_, ?_, ?_⟩)
    (hinit := ?_) (QY := fun c s => s.mem ((c.tc : Thread nD τ).loc main_v8) = cents m c ∧ s.mem ((c.tc : Thread nD τ).loc main_v10) = weights m c
        ∧ s.mem ((c.tc : Thread nD τ).loc main_arg0) = m ((c.tc : Thread nD τ).loc main_arg0))
    (hfin := fun c s' => ?_) (hQ := fun _ h hz => ⟨h, funext fun g => hz g (.inr (regions_no_unscoped g.2))⟩)
  · rw [ownU_emb₁]
    iintro Hu
    imodintro
    isplitl [Hu]; · iexact Hu
    iapply (show (BI.emp : sProp 𝕄) ⊢ bigSep Finset.univ (fun _ : Dev nD => (BI.emp : sProp 𝕄)) from by rw [BI.bigSep_emp_const])
    iempintro
  · exact sep_mono (Entails.of_eq (Pipeline.unscopedBufs_held c (V1 m c)).symm) .rfl
  · exact sep_mono (Entails.of_eq (Pipeline.unscopedBufs_held c (V2 m (outs m) c))) .rfl
  · show iprop(StableHlo.held (c : Thread nD τ) (Pipeline.ucRefs τ sig) (V3 m (outs m) c) ∗ Reg.R c) ⊢ _
    rw [V3_outs]
    exact sep_mono (Entails.of_eq (Pipeline.unscopedBufs_held c (V3 m (mkOuts m (cents m) fun c => m ((c : Thread nD τ).loc main_v10)) c)).symm) .rfl
  · exact sep_mono (Entails.of_eq (Pipeline.unscopedBufs_held c (V4 m (outs m) c))) .rfl
  · refine Pipeline.initEach Reg.L Reg.lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨(h (Proc.devRef .tc main_v8) (Finset.mem_filter.mpr ⟨StableHlo.devRef_mem_tcRefs main_v8, by decide⟩)).trans (V4_v8 m c),
        (h (Proc.devRef .tc main_v10) (Finset.mem_filter.mpr ⟨StableHlo.devRef_mem_tcRefs main_v10, by decide⟩)).trans (V4_v10 m c),
        (h (Proc.devRef .tc main_arg0) (Finset.mem_filter.mpr ⟨StableHlo.devRef_mem_tcRefs main_arg0, by decide⟩)).trans (V4_main_arg0 m (outs m) c)⟩
    · iexact HSI

end Cert.KernelIdeal.Run
-- ==== Proof.Tree.lean ====
/-
  The farthest-point kernel's reduction over its 16 x 8 rows of lanes: halving the leading axis four times and adding
  each row to the rows rotated by 4, 2 and 1, read as a sum or as a maximum over the two axes.
-/
module

public import proofs.«01_k».proof.Proof.FpsRun
public import Idealize.ShloMosaic.Lib.ValueIdx
public import Idealize.ShloMosaic.Lib.Pipeline.Value

@[expose] public section

set_option maxRecDepth 16384

noncomputable section

namespace Cert.KernelIdeal.Tree

open Cert.KernelIdeal Cert.KernelIdeal.Gen
open Idealize.ShloMosaic Idealize.ShloMosaic.ValueIdx

variable {α : Type}

/-- An operation taken element by element. -/
def lift (s : Shape) (op : α → α → α) (a b : s.Idx → α) : s.Idx → α := fun i => op (a i) (b i)

/-- The leading axis halved four times. -/
def tree (op : α → α → α) (w : S16x8x128.Idx → α) : S8x128.Idx → α :=
  have v2 : S8x8x128.Idx → α := lift S8x8x128 op (extractStridedSlice S8x8x128 ![0, 0, 0] w slices_S16x8x128_o0_0_0_S8x8x128)
    (extractStridedSlice S8x8x128 ![8, 0, 0] w slices_S16x8x128_o8_0_0_S8x8x128)
  have v5 : S4x8x128.Idx → α := lift S4x8x128 op (extractStridedSlice S4x8x128 ![0, 0, 0] v2 slices_S8x8x128_o0_0_0_S4x8x128)
    (extractStridedSlice S4x8x128 ![4, 0, 0] v2 slices_S8x8x128_o4_0_0_S4x8x128)
  have v8 : S2x8x128.Idx → α := lift S2x8x128 op (extractStridedSlice S2x8x128 ![0, 0, 0] v5 slices_S4x8x128_o0_0_0_S2x8x128)
    (extractStridedSlice S2x8x128 ![2, 0, 0] v5 slices_S4x8x128_o2_0_0_S2x8x128)
  have v11 : S1x8x128.Idx → α := lift S1x8x128 op (extractStridedSlice S1x8x128 ![0, 0, 0] v8 slices_S2x8x128_o0_0_0_S1x8x128)
    (extractStridedSlice S1x8x128 ![1, 0, 0] v8 slices_S2x8x128_o1_0_0_S1x8x128)
  shapeCast S8x128 v11 shapeCasts_S1x8x128_S8x128

/-- A row with the row rotated onto it. -/
def rot (op : α → α → α) (n : BitVec 32) (u : S8x128.Idx → α) : S8x128.Idx → α :=
  lift S8x128 op u (dynamicRotate 0 n none u rotates_S8x128_d0)

theorem tree_apply (op : α → α → α) (w : S16x8x128.Idx → α) (s : Fin 8) (l : Fin 128) :
    tree op w (ix2 s l) =
      op (op (op (op (w (ix3 0 s l)) (w (ix3 8 s l))) (op (w (ix3 4 s l)) (w (ix3 12 s l))))
          (op (op (w (ix3 2 s l)) (w (ix3 10 s l))) (op (w (ix3 6 s l)) (w (ix3 14 s l)))))
        (op (op (op (w (ix3 1 s l)) (w (ix3 9 s l))) (op (w (ix3 5 s l)) (w (ix3 13 s l))))
          (op (op (w (ix3 3 s l)) (w (ix3 11 s l))) (op (w (ix3 7 s l)) (w (ix3 15 s l))))) := by
  have h2 : ∀ (t : Fin 8) (t' : Fin 16) (x : S16x8x128.Idx → α), t'.val = t.val →
      extractStridedSlice S8x8x128 ![0, 0, 0] x slices_S16x8x128_o0_0_0_S8x8x128 (ix3 t s l) = x (ix3 t' s l) :=
    fun t t' x h => extractStridedSlice_apply _ _ _ _ _ fun a => match a with
      | ⟨0, _⟩ => by show t'.val = 0 + t.val; omega
      | ⟨1, _⟩ => (Nat.zero_add _).symm
      | ⟨2, _⟩ => (Nat.zero_add _).symm
  have h2' : ∀ (t : Fin 8) (t' : Fin 16) (x : S16x8x128.Idx → α), t'.val = 8 + t.val →
      extractStridedSlice S8x8x128 ![8, 0, 0] x slices_S16x8x128_o8_0_0_S8x8x128 (ix3 t s l) = x (ix3 t' s l) :=
    fun t t' x h => extractStridedSlice_apply _ _ _ _ _ fun a => match a with
      | ⟨0, _⟩ => by show t'.val = 8 + t.val; omega
      | ⟨1, _⟩ => (Nat.zero_add _).symm
      | ⟨2, _⟩ => (Nat.zero_add _).symm
  have h3 : ∀ (t : Fin 4) (t' : Fin 8) (x : S8x8x128.Idx → α), t'.val = t.val →
      extractStridedSlice S4x8x128 ![0, 0, 0] x slices_S8x8x128_o0_0_0_S4x8x128 (ix3 t s l) = x (ix3 t' s l) :=
    fun t t' x h => extractStridedSlice_apply _ _ _ _ _ fun a => match a with
      | ⟨0, _⟩ => by show t'.val = 0 + t.val; omega
      | ⟨1, _⟩ => (Nat.zero_add _).symm
      | ⟨2, _⟩ => (Nat.zero_add _).symm
  have h3' : ∀ (t : Fin 4) (t' : Fin 8) (x : S8x8x128.Idx → α), t'.val = 4 + t.val →
      extractStridedSlice S4x8x128 ![4, 0, 0] x slices_S8x8x128_o4_0_0_S4x8x128 (ix3 t s l) = x (ix3 t' s l) :=
    fun t t' x h => extractStridedSlice_apply _ _ _ _ _ fun a => match a with
      | ⟨0, _⟩ => by show t'.val = 4 + t.val; omega
      | ⟨1, _⟩ => (Nat.zero_add _).symm
      | ⟨2, _⟩ => (Nat.zero_add _).symm
  have h4 : ∀ (t : Fin 2) (t' : Fin 4) (x : S4x8x128.Idx → α), t'.val = t.val →
      extractStridedSlice S2x8x128 ![0, 0, 0] x slices_S4x8x128_o0_0_0_S2x8x128 (ix3 t s l) = x (ix3 t' s l) :=
    fun t t' x h => extractStridedSlice_apply _ _ _ _ _ fun a => match a with
      | ⟨0, _⟩ => by show t'.val = 0 + t.val; omega
      | ⟨1, _⟩ => (Nat.zero_add _).symm
      | ⟨2, _⟩ => (Nat.zero_add _).symm
  have h4' : ∀ (t : Fin 2) (t' : Fin 4) (x : S4x8x128.Idx → α), t'.val = 2 + t.val →
      extractStridedSlice S2x8x128 ![2, 0, 0] x slices_S4x8x128_o2_0_0_S2x8x128 (ix3 t s l) = x (ix3 t' s l) :=
    fun t t' x h => extractStridedSlice_apply _ _ _ _ _ fun a => match a with
      | ⟨0, _⟩ => by show t'.val = 2 + t.val; omega
      | ⟨1, _⟩ => (Nat.zero_add _).symm
      | ⟨2, _⟩ => (Nat.zero_add _).symm
  have h5 : ∀ (x : S2x8x128.Idx → α),
      extractStridedSlice S1x8x128 ![0, 0, 0] x slices_S2x8x128_o0_0_0_S1x8x128 (ix3 0 s l) = x (ix3 0 s l) :=
    fun x => extractStridedSlice_apply _ _ _ _ _ fun a => match a with
      | ⟨0, _⟩ => rfl
      | ⟨1, _⟩ => (Nat.zero_add _).symm
      | ⟨2, _⟩ => (Nat.zero_add _).symm
  have h5' : ∀ (x : S2x8x128.Idx → α),
      extractStridedSlice S1x8x128 ![1, 0, 0] x slices_S2x8x128_o1_0_0_S1x8x128 (ix3 0 s l) = x (ix3 1 s l) :=
    fun x => extractStridedSlice_apply _ _ _ _ _ fun a => match a with
      | ⟨0, _⟩ => rfl
      | ⟨1, _⟩ => (Nat.zero_add _).symm
      | ⟨2, _⟩ => (Nat.zero_add _).symm
  unfold tree
  refine (shapeCast_apply _ _ _ (ix3 0 s l) ?_).trans ?_
  · rw [Shape.rowMajor_val_three, Shape.rowMajor_val_two]
    show (0 * 8 + s.val) * 128 + l.val = s.val * 128 + l.val
    omega
  simp only [lift, h5, h5', h4 0 0 _ rfl, h4 1 1 _ rfl, h4' 0 2 _ rfl, h4' 1 3 _ rfl, h3 0 0 _ rfl, h3 1 1 _ rfl, h3 2 2 _ rfl,
    h3 3 3 _ rfl, h3' 0 4 _ rfl, h3' 1 5 _ rfl, h3' 2 6 _ rfl, h3' 3 7 _ rfl, h2 0 0 _ rfl, h2 1 1 _ rfl, h2 2 2 _ rfl, h2 3 3 _ rfl,
    h2 4 4 _ rfl, h2 5 5 _ rfl, h2 6 6 _ rfl, h2 7 7 _ rfl, h2' 0 8 _ rfl, h2' 1 9 _ rfl, h2' 2 10 _ rfl, h2' 3 11 _ rfl,
    h2' 4 12 _ rfl, h2' 5 13 _ rfl, h2' 6 14 _ rfl, h2' 7 15 _ rfl]

/-- A rotated row read at a row: the row `n` above it. -/
theorem rotate_apply (n : BitVec 32) (u : S8x128.Idx → α) (s s' : Fin 8) (l : Fin 128)
    (h : s'.val = (s.val + 8 - (n.toNat + 0) % 8) % 8) :
    dynamicRotate 0 n none u rotates_S8x128_d0 (ix2 s l) = u (ix2 s' l) := by
  refine congrArg u (funext fun b => match b with | ⟨0, _⟩ => Fin.ext h.symm | ⟨1, _⟩ => rfl)

theorem rot_apply (op : α → α → α) (n : BitVec 32) (u : S8x128.Idx → α) (s s' : Fin 8) (l : Fin 128)
    (h : s'.val = (s.val + 8 - (n.toNat + 0) % 8) % 8) : rot op n u (ix2 s l) = op (u (ix2 s l)) (u (ix2 s' l)) := by
  unfold rot lift
  rw [rotate_apply n u s s' l h]

/-- All eight rows, from row `s` on. -/
theorem bfly_apply (op : α → α → α) (u : S8x128.Idx → α) (s : Fin 8) (l : Fin 128) :
    rot op 1#32 (rot op 2#32 (rot op 4#32 u)) (ix2 s l) =
      op (op (op (u (ix2 s l)) (u (ix2 (s - 4) l))) (op (u (ix2 (s - 2) l)) (u (ix2 (s - 2 - 4) l))))
        (op (op (u (ix2 (s - 1) l)) (u (ix2 (s - 1 - 4) l))) (op (u (ix2 (s - 1 - 2) l)) (u (ix2 (s - 1 - 2 - 4) l)))) := by
  have h1 : ∀ s : Fin 8, (s - 1).val = (s.val + 8 - ((1#32 : BitVec 32).toNat + 0) % 8) % 8 := by decide
  have h2 : ∀ s : Fin 8, (s - 2).val = (s.val + 8 - ((2#32 : BitVec 32).toNat + 0) % 8) % 8 := by decide
  have h4 : ∀ s : Fin 8, (s - 4).val = (s.val + 8 - ((4#32 : BitVec 32).toNat + 0) % 8) % 8 := by decide
  simp only [fun u s => rot_apply op 1#32 u s _ l (h1 s), fun u s => rot_apply op 2#32 u s _ l (h2 s),
    fun u s => rot_apply op 4#32 u s _ l (h4 s)]

/-- The whole reduction as the kernel takes it. -/
def full (op : α → α → α) (w : S16x8x128.Idx → α) : S8x128.Idx → α := rot op 1#32 (rot op 2#32 (rot op 4#32 (tree op w)))

theorem sum16 (g : Fin 16 → EReal) :
    ((((g 0 + g 8) + (g 4 + g 12)) + ((g 2 + g 10) + (g 6 + g 14))) + (((g 1 + g 9) + (g 5 + g 13)) + ((g 3 + g 11) + (g 7 + g 15))))
      = ∑ t, g t := by
  rw [Fin.sum_univ_castSucc]
  simp only [Fin.sum_univ_castSucc, Finset.univ_eq_empty, Finset.sum_empty, zero_add]
  show _ = g 0 + g 1 + g 2 + g 3 + g 4 + g 5 + g 6 + g 7 + g 8 + g 9 + g 10 + g 11 + g 12 + g 13 + g 14 + g 15
  abel

theorem sum8 (g : Fin 8 → EReal) (s : Fin 8) :
    ((g s + g (s - 4)) + (g (s - 2) + g (s - 2 - 4))) + ((g (s - 1) + g (s - 1 - 4)) + (g (s - 1 - 2) + g (s - 1 - 2 - 4))) = ∑ t, g t := by
  rw [← Equiv.sum_comp (Equiv.subLeft s) g, Fin.sum_univ_eight]
  have e1 : ∀ s : Fin 8, s - 2 - 4 = s - 6 := by decide
  have e2 : ∀ s : Fin 8, s - 1 - 4 = s - 5 := by decide
  have e3 : ∀ s : Fin 8, s - 3 - 4 = s - 7 := by decide
  have e4 : ∀ s : Fin 8, s - 1 - 2 = s - 3 := by decide
  have e5 : ∀ s : Fin 8, s - 0 = s := by decide
  simp only [Equiv.subLeft_apply, e1, e2, e3, e4, e5]
  abel

/-- With addition it is the sum over both axes. -/
theorem full_add (w : S16x8x128.Idx → EReal) (s : Fin 8) (l : Fin 128) :
    full (· + ·) w (ix2 s l) = ∑ s' : Fin 8, ∑ t : Fin 16, w (ix3 t s' l) := by
  have ht : ∀ s', tree (· + ·) w (ix2 s' l) = ∑ t : Fin 16, w (ix3 t s' l) := fun s' => by
    rw [tree_apply]
    exact sum16 fun t => w (ix3 t s' l)
  unfold full
  rw [bfly_apply]
  simp only [ht]
  exact sum8 (fun s' => ∑ t : Fin 16, w (ix3 t s' l)) s

/-- With the maximum it is the least bound of both axes. -/
theorem full_max_le (w : S16x8x128.Idx → EReal) (s : Fin 8) (l : Fin 128) (c : EReal) :
    full max w (ix2 s l) ≤ c ↔ ∀ (s' : Fin 8) (t : Fin 16), w (ix3 t s' l) ≤ c := by
  have ht : ∀ s', tree max w (ix2 s' l) ≤ c ↔ ∀ t : Fin 16, w (ix3 t s' l) ≤ c := fun s' => by
    rw [tree_apply]
    simp only [max_le_iff]
    constructor
    · intro h t; fin_cases t <;> tauto
    · intro h; simp only [h, and_self]
  unfold full
  rw [bfly_apply]
  simp only [max_le_iff, ht]
  constructor
  · intro h s'
    have e : ∀ s s' : Fin 8, s' = s ∨ s' = s - 4 ∨ s' = s - 2 ∨ s' = s - 2 - 4 ∨ s' = s - 1 ∨ s' = s - 1 - 4 ∨ s' = s - 1 - 2 ∨ s' = s - 1 - 2 - 4 := by
      decide
    rcases e s s' with e | e | e | e | e | e | e | e <;> rw [e] <;> tauto
  · intro h; simp only [fun s => h s, implies_true, and_self]

end Cert.KernelIdeal.Tree

end
-- ==== Proof.Spec.lean ====
/-
  Farthest point sampling over the extended reals, stated once for the kernel and the reference: the state before each
  pick (the running distances and the last picked row), the next state, and the sampled points.
-/
module

public import Idealize.ShloMosaic.Lib.ValueIdx

@[expose] public section

noncomputable section

namespace Cert.Spec

/-- Row `l` is the first at which `D` is greatest. -/
def IsArg {n : ℕ} (D : Fin n → EReal) (l : Fin n) : Prop := (∀ p, D p ≤ D l) ∧ ∀ p, D p = D l → l ≤ p

theorem IsArg.unique {n : ℕ} {D : Fin n → EReal} {l l' : Fin n} (h : IsArg D l) (h' : IsArg D l') : l = l' :=
  le_antisymm (h.2 l' (le_antisymm (h.1 _) (h'.1 _))) (h'.2 l (le_antisymm (h'.1 _) (h.1 _)))

theorem exists_isArg {n : ℕ} [NeZero n] (D : Fin n → EReal) : ∃ l, IsArg D l := by
  obtain ⟨m, -, hm⟩ := Finset.exists_max_image Finset.univ D ⟨0, Finset.mem_univ _⟩
  obtain ⟨l, hl, hl'⟩ := Finset.exists_min_image (Finset.univ.filter fun p => D p = D m) id ⟨m, by simp⟩
  have e : D l = D m := (Finset.mem_filter.1 hl).2
  exact ⟨l, fun p => e ▸ hm p (Finset.mem_univ _), fun p hp => hl' p (by simp [hp, e])⟩

/-- The first row at which `D` is greatest. -/
def arg {n : ℕ} [NeZero n] (D : Fin n → EReal) : Fin n := (exists_isArg D).choose

theorem arg_isArg {n : ℕ} [NeZero n] (D : Fin n → EReal) : IsArg D (arg D) := (exists_isArg D).choose_spec

theorem IsArg.eq_arg {n : ℕ} [NeZero n] {D : Fin n → EReal} {l : Fin n} (h : IsArg D l) : l = arg D := h.unique (arg_isArg D)

/-- The points: rows of three coordinates. -/
abbrev Pts : Type := Fin 16384 → Fin 3 → EReal

/-- The squared distance from row `p` to the point `a`. -/
def sq (x : Pts) (a : Fin 3 → EReal) (p : Fin 16384) : EReal := ∑ c : Fin 3, (x p c - a c) * (x p c - a c)

/-- The running distances, lowered by those to the last picked row `s.2`; -/
def lower (x : Pts) (s : (Fin 16384 → EReal) × Fin 16384) (p : Fin 16384) : EReal := min (s.1 p) (sq x (x s.2) p)

/-- the state after one more pick: the first row that is farthest from all picked ones. -/
def next (x : Pts) (s : (Fin 16384 → EReal) × Fin 16384) : (Fin 16384 → EReal) × Fin 16384 := (lower x s, arg (lower x s))

/-- The state after `k` picks beyond row 0. -/
def st (x : Pts) (k : ℕ) : (Fin 16384 → EReal) × Fin 16384 := (next x)^[k] (fun _ => ⊤, 0)

theorem st_succ (x : Pts) (k : ℕ) : st x (k + 1) = next x (st x k) := Function.iterate_succ_apply' ..

/-- A sum of indicator-like terms that only the row `l` meets. -/
theorem sum_ite_unique {n : ℕ} (P : Fin n → Prop) [DecidablePred P] (l : Fin n) (h : ∀ p, P p ↔ p = l) (f : Fin n → EReal) :
    (∑ p, if P p then f p else 0) = f l := by
  simp [h]

/-- At most one row at the greatest distance: then it is the first such. -/
theorem unique_of_count_le {n : ℕ} (P : Fin n → Prop) [DecidablePred P] (l : Fin n) (hl : P l)
    (h : (∑ p, if P p then (1 : EReal) else 0) ≤ 1) (p : Fin n) : P p ↔ p = l := by
  refine ⟨fun hp => ?_, fun e => e ▸ hl⟩
  by_contra hne
  have h2 : (∑ q ∈ {p, l}, if P q then (1 : EReal) else 0) ≤ ∑ q, if P q then (1 : EReal) else 0 :=
    Finset.sum_le_sum_of_subset_of_nonneg (Finset.subset_univ _) fun q _ _ => by split <;> simp
  rw [Finset.sum_pair hne, if_pos hp, if_pos hl] at h2
  have h3 := h2.trans h
  have h4 : ((1 + 1 : ℝ) : EReal) ≤ ((1 : ℝ) : EReal) := by push_cast; exact h3
  exact absurd (EReal.coe_le_coe_iff.1 h4) (by norm_num)

end Cert.Spec

end
-- ==== Proof.Trip.lean ====
/-
  One trip of the fast loop over the extended reals: the distances that it leaves, and each of its selected sums as a sum
  over the rows at the greatest distance.
-/
module

public import proofs.«01_k».proof.Proof.Tree
public import proofs.«01_k».proof.Proof.Spec
public import Idealize.ShloMosaic.PureOps.Ideal.Laws

@[expose] public section

set_option maxRecDepth 16384

noncomputable section

namespace Cert.KernelIdeal.Trip

open Cert.KernelIdeal Cert.KernelIdeal.Gen Cert.KernelIdeal.Fps Cert.KernelIdeal.Tree Cert.Spec
open Idealize.ShloMosaic Idealize.ShloMosaic.ValueIdx

/-! ## Rows and positions -/

/-- The row that a position of a coordinate array holds. -/
def row (y : S16x8x128.Idx) : Fin 16384 :=
  ⟨(y 0).val * 1024 + (y 1).val * 128 + (y 2).val, by
    have h0 : (y 0).val < 16 := (y 0).isLt
    have h1 : (y 1).val < 8 := (y 1).isLt
    have h2 : (y 2).val < 128 := (y 2).isLt
    omega⟩

/-- The position of a row. -/
def pos (p : Fin 16384) : S16x8x128.Idx :=
  ix3 ⟨p.val / 1024, by omega⟩ ⟨p.val % 1024 / 128, by omega⟩ ⟨p.val % 128, by omega⟩

theorem row_pos (p : Fin 16384) : row (pos p) = p := by
  refine Fin.ext ?_
  show p.val / 1024 * 1024 + p.val % 1024 / 128 * 128 + p.val % 128 = p.val
  omega

theorem pos_row (y : S16x8x128.Idx) : pos (row y) = y := by
  have h0 : (y 0).val < 16 := (y 0).isLt
  have h1 : (y 1).val < 8 := (y 1).isLt
  have h2 : (y 2).val < 128 := (y 2).isLt
  funext a
  refine Fin.ext ?_
  match a with
  | ⟨0, _⟩ => show ((y 0).val * 1024 + (y 1).val * 128 + (y 2).val) / 1024 = (y 0).val; omega
  | ⟨1, _⟩ => show ((y 0).val * 1024 + (y 1).val * 128 + (y 2).val) % 1024 / 128 = (y 1).val; omega
  | ⟨2, _⟩ => show ((y 0).val * 1024 + (y 1).val * 128 + (y 2).val) % 128 = (y 2).val; omega

/-- Positions and rows correspond. -/
def rowEquiv : S16x8x128.Idx ≃ Fin 16384 where
  toFun := row
  invFun := pos
  left_inv := pos_row
  right_inv := row_pos

/-- A sum over the lanes, the rows of lanes and the blocks is the sum over the points. -/
theorem sum_rows (f : Fin 16384 → EReal) :
    (∑ l : Fin 128, ∑ s : Fin 8, ∑ t : Fin 16, f (row (ix3 t s l))) = ∑ p, f p := by
  rw [← Equiv.sum_comp rowEquiv f]
  have e : (∑ y : S16x8x128.Idx, f (rowEquiv y)) = ∑ q : Fin 128 × Fin 8 × Fin 16, f (row (ix3 q.2.2 q.2.1 q.1)) := by
    refine Fintype.sum_equiv ⟨fun y : S16x8x128.Idx => ((y 2, y 1, y 0) : Fin 128 × Fin 8 × Fin 16), fun q => ix3 q.2.2 q.2.1 q.1,
      fun y => (eq_ix3 y).symm, fun q => rfl⟩ _ _ fun y => ?_
    exact congrArg (fun q => f (row q)) (eq_ix3 y)
  rw [e, Fintype.sum_prod_type]
  refine Finset.sum_congr rfl fun l _ => ?_
  rw [Fintype.sum_prod_type]

/-! ## A select on a comparison -/

theorem select_oeq (a b : EReal) (u v : EReal) :
    Scalar.select (Ideal.cmp .oeq a b) u v = if a = b then u else v := by
  unfold Scalar.select Ideal.cmp
  by_cases h : a = b <;> simp [h]

/-! ## The trip -/

/-- Coordinate `c` of the points, as the kernel holds it. -/
abbrev co (x : Pts) (c : Fin 3) : FVec Ideal S16x8x128 .f32 := fun y => x (row y) c

/-- The fast loop's state that holds the distances and the last picked row of `t`. -/
structure Rel (x : Pts) (t : (Fin 16384 → EReal) × Fin 16384) (s : FastSt Ideal) : Prop where
  a0 : s.1.1 = fun _ => x t.2 0
  a1 : s.1.2.1 = fun _ => x t.2 1
  a2 : s.1.2.2.1 = fun _ => x t.2 2
  d : s.2 = fun y => t.1 (row y)

variable {x : Pts} {t : (Fin 16384 → EReal) × Fin 16384} {s : FastSt Ideal}

/-- The distances are lowered by those to the last picked row. -/
theorem v50_eq (h : Rel x t s) : v50 (co x 0) (co x 1) (co x 2) s = fun y => lower x t (row y) := by
  obtain ⟨⟨b0, b1, b2, b3⟩, d⟩ := s
  obtain ⟨h0, h1, h2, h3⟩ := h
  dsimp only at h0 h1 h2 h3
  subst h0 h1 h2 h3
  funext y
  unfold v50 k0_pay32 k0_pay29 k0_pay30 k0_pay31
  simp only [shapeCast_self]
  show min (t.1 (row y)) (((x (row y) 0 - x t.2 0) * (x (row y) 0 - x t.2 0) + (x (row y) 2 - x t.2 2) * (x (row y) 2 - x t.2 2))
    + (x (row y) 1 - x t.2 1) * (x (row y) 1 - x t.2 1)) = lower x t (row y)
  unfold lower Spec.sq
  rw [Fin.sum_univ_three, add_right_comm]

theorem pay33_eq (h : Rel x t s) :
    k0_pay33 s.1.1 s.1.2.1 s.1.2.2.1 (co x 0) (co x 1) (co x 2) s.2 = fun y => lower x t (row y) := by
  rw [← v50_eq h]
  unfold k0_pay33 v50
  simp only [shapeCast_self]

theorem v72_le (h : Rel x t s) (a : Fin 8) (l : Fin 128) (c : EReal) :
    v72 (co x 0) (co x 1) (co x 2) s (ix2 a l) ≤ c ↔ ∀ (a' : Fin 8) (b : Fin 16), lower x t (row (ix3 b a' l)) ≤ c := by
  have e : v72 (co x 0) (co x 1) (co x 2) s = full max (v50 (co x 0) (co x 1) (co x 2) s) := rfl
  rw [e, full_max_le, v50_eq h]

theorem eq_col (z : S8x1.Idx) : ∃ a : Fin 8, z = ix2 a 0 :=
  ⟨z 0, funext fun b => match b with
    | ⟨0, _⟩ => rfl
    | ⟨1, _⟩ => Fin.ext (by have h : (z 1).val < 1 := (z 1).isLt; show (z 1).val = 0; omega)⟩

theorem rowMajor_col (a : Fin 8) : ((⟨1, ![8]⟩ : Shape).rowMajor (ix1 a)).val = ((⟨2, ![8, 1]⟩ : Shape).rowMajor (ix2 a 0)).val := by
  rw [Shape.rowMajor_val_one, Shape.rowMajor_val_two]
  show a.val = a.val * 1 + 0
  omega

theorem lift_lane (a : Fin 8) (l : Fin 128) : reduces_S8x128_S8.lift (ix1 a) l = ix2 a l := by
  funext b; match b with | ⟨0, _⟩ => rfl | ⟨1, _⟩ => rfl

theorem negInf_eq : FloatOps.ofBits (F := Ideal) .f32 (FKind.maximumf.neutral .f32 (.inl rfl)) = (⊥ : EReal) := by
  show Ideal.ofBits .f32 0xFF800000#32 = ⊥
  simp [Ideal.ofBits, Ideal.ieee]

theorem v74_le (h : Rel x t s) (z : S8x1.Idx) (c : EReal) :
    v74 (co x 0) (co x 1) (co x 2) s z ≤ c ↔ ∀ p, lower x t p ≤ c := by
  obtain ⟨a, rfl⟩ := eq_col z
  have e : v74 (co x 0) (co x 1) (co x 2) s (ix2 a 0)
      = (Finset.univ : Finset (Fin 128)).fold max ⊥ fun l => v72 (co x 0) (co x 1) (co x 2) s (ix2 a l) := by
    unfold v74 k0_pay37
    refine (shapeCast_apply _ _ _ (ix1 a) (rowMajor_col a)).trans ?_
    refine (Ideal.multiReduction_maximumf_single (φ := .f32) _ _ reduces_S8x128_S8 (.inl rfl) rfl _).trans ?_
    rw [negInf_eq]
    exact Finset.fold_congr fun (l : Fin 128) _ => congrArg (v72 (co x 0) (co x 1) (co x 2) s) (lift_lane a l)
  rw [e, Finset.fold_max_le]
  refine ⟨fun H p => ?_, fun H => ⟨bot_le, fun l _ => (v72_le h _ l c).2 fun a' b => H _⟩⟩
  have H' := (v72_le h a (pos p 2) c).1 (H.2 (pos p 2) (Finset.mem_univ _)) (pos p 1) (pos p 0)
  have e' : row (ix3 (pos p 0) (pos p 1) (pos p 2)) = p := (congrArg row (eq_ix3 (pos p)).symm).trans (row_pos p)
  rwa [e'] at H'

theorem v74_eq (h : Rel x t s) (z : S8x1.Idx) : v74 (co x 0) (co x 1) (co x 2) s z = lower x t (arg (lower x t)) :=
  le_antisymm ((v74_le h z _).2 (arg_isArg _).1) ((v74_le h z _).1 le_rfl _)

/-- A sum that the trip takes over its selected positions: over the rows at the greatest distance. -/
theorem sel_sum (h : Rel x t s) (f : Fin 16384 → EReal) (g : S8x128.Idx → EReal)
    (hg : g = full (· + ·) (fun y => if v50 (co x 0) (co x 1) (co x 2) s y = v72 (co x 0) (co x 1) (co x 2) s (ix2 (y 1) (y 2)) then f (row y) else 0))
    (z : S8x1.Idx) :
    shapeCast S8x1 (multiReduction (F := Ideal) (φ := .f32) .add [1] S8
      (select (v164 (co x 0) (co x 1) (co x 2) s) g (broadcast S8x128 (Scalar.ofBits .f32 0x00000000#32))) 0x00000000#32 reduces_S8x128_S8 (.inl rfl) rfl)
      shapeCasts_S8_S8x1 z
      = ∑ p, if lower x t p = lower x t (arg (lower x t)) then f p else 0 := by
  obtain ⟨a₀, rfl⟩ := eq_col z
  refine (shapeCast_apply _ _ _ (ix1 a₀) (rowMajor_col a₀)).trans ?_
  refine (Ideal.multiReduction_add_single (φ := .f32) _ _ reduces_S8x128_S8 (.inl rfl) rfl _).trans ?_
  rw [← sum_rows fun p => if lower x t p = lower x t (arg (lower x t)) then f p else 0]
  refine Finset.sum_congr rfl fun (l : Fin 128) _ => ?_
  refine (congrArg (select (v164 (co x 0) (co x 1) (co x 2) s) g (broadcast S8x128 (Scalar.ofBits (F := Ideal) .f32 0x00000000#32))) (lift_lane a₀ l)).trans ?_
  rw [select_apply]
  have hm : v164 (co x 0) (co x 1) (co x 2) s (ix2 a₀ l)
      = Ideal.cmp .oeq (v72 (co x 0) (co x 1) (co x 2) s (ix2 a₀ l)) (lower x t (arg (lower x t))) := by
    rw [← v74_eq h (ix2 a₀ 0)]
    unfold v164 k0_pay43
    rw [cmpf_apply, broadcastTo_apply _ _ _ (ix2 a₀ 0) (fun a => match a with | ⟨0, _⟩ => rfl | ⟨1, _⟩ => rfl)]
    rfl
  have hz : broadcast S8x128 (Scalar.ofBits (F := Ideal) .f32 0x00000000#32) (ix2 a₀ l) = (0 : EReal) := Ideal.ofBits_zero_f32
  have hind : ∀ a a' : Fin 8, v72 (co x 0) (co x 1) (co x 2) s (ix2 a l) = v72 (co x 0) (co x 1) (co x 2) s (ix2 a' l) := fun a a' =>
    le_antisymm ((v72_le h a l _).2 ((v72_le h a' l _).1 le_rfl)) ((v72_le h a' l _).2 ((v72_le h a l _).1 le_rfl))
  rw [hm, hz, select_oeq, hg, full_add, v50_eq h]
  have hM : ∀ p, lower x t p ≤ lower x t (arg (lower x t)) := (arg_isArg _).1
  have hC : ∀ (a' : Fin 8) (b : Fin 16), lower x t (row (ix3 b a' l)) ≤ v72 (co x 0) (co x 1) (co x 2) s (ix2 a₀ l) :=
    (v72_le h a₀ l _).1 le_rfl
  split
  · rename_i hc
    refine Finset.sum_congr rfl fun a _ => Finset.sum_congr rfl fun b _ => ?_
    show (if lower x t (row (ix3 b a l)) = v72 (co x 0) (co x 1) (co x 2) s (ix2 a l) then _ else _) = _
    rw [hind a a₀, hc]
  · rename_i hc
    have hlt : v72 (co x 0) (co x 1) (co x 2) s (ix2 a₀ l) < lower x t (arg (lower x t)) :=
      lt_of_le_of_ne ((v72_le h a₀ l _).2 fun a' b => hM _) hc
    symm
    refine Finset.sum_eq_zero fun a _ => Finset.sum_eq_zero fun b _ => if_neg ((hC a b).trans_lt hlt).ne

end Cert.KernelIdeal.Trip

end
-- ==== Proof.Fast.lean ====
/-
  The fast loop over the extended reals: while no trip counts two rows at the greatest distance, its state and the rows it
  writes are those of farthest point sampling; and the carried tie count bounds every trip's count.
-/
module

public import proofs.«01_k».proof.Proof.Trip
public import Idealize.ShloMosaic.Lib.IdealHost

@[expose] public section

set_option maxRecDepth 16384

noncomputable section

namespace Cert.KernelIdeal.Fast

open Cert.KernelIdeal Cert.KernelIdeal.Gen Cert.KernelIdeal.Fps Cert.KernelIdeal.Tree Cert.KernelIdeal.Trip Cert.Spec
open Idealize.ShloMosaic Idealize.ShloMosaic.ValueIdx

/-- Three one-element blocks side by side, read at a column. -/
theorem row3 {α : Type} (a b c : S1x1.Idx → α) :
    concatenate S1x3 1 [⟨S1x1, a⟩, ⟨S1x1, b⟩, ⟨S1x1, c⟩] concatenates_S1x1_S1x1_S1x1_S1x3_d1 (col 0) = a (ix2 0 0) ∧
    concatenate S1x3 1 [⟨S1x1, a⟩, ⟨S1x1, b⟩, ⟨S1x1, c⟩] concatenates_S1x1_S1x1_S1x1_S1x3_d1 (col 1) = b (ix2 0 0) ∧
    concatenate S1x3 1 [⟨S1x1, a⟩, ⟨S1x1, b⟩, ⟨S1x1, c⟩] concatenates_S1x1_S1x1_S1x1_S1x3_d1 (col 2) = c (ix2 0 0) := by
  have hi : ∀ (j : Fin 3) (b : Fin S1x1.rank), b.cast rfl ≠ (1 : Fin S1x3.rank) → ((ix2 0 0 : S1x1.Idx) b).val = (col j (b.cast rfl)).val := fun j b hb =>
    match b with
    | ⟨0, _⟩ => rfl
    | ⟨1, _⟩ => absurd rfl hb
  exact ⟨concatenate_apply_piece (t := S1x3) 1 _ _ _ 0 (by simp) S1x1 a rfl rfl 0 rfl (ix2 0 0) (hi 0) rfl,
    concatenate_apply_piece (t := S1x3) 1 _ _ _ 1 (by simp) S1x1 b rfl rfl 1 rfl (ix2 0 0) (hi 1) rfl,
    concatenate_apply_piece (t := S1x3) 1 _ _ _ 2 (by simp) S1x1 c rfl rfl 2 rfl (ix2 0 0) (hi 2) rfl⟩

theorem slice11 {α : Type} (v : S8x1.Idx → α) (i : S1x1.Idx) :
    extractStridedSlice S1x1 ![0, 0] v slices_S8x1_o0_0_S1x1 i = v (ix2 0 0) :=
  extractStridedSlice_apply _ _ _ _ _ fun a => match a with
    | ⟨0, _⟩ => by have h : (i 0).val < 1 := (i 0).isLt; show 0 = 0 + (i 0).val; omega
    | ⟨1, _⟩ => by have h : (i 1).val < 1 := (i 1).isLt; show 0 = 0 + (i 1).val; omega

variable {x : Pts} {t : (Fin 16384 → EReal) × Fin 16384} {s : FastSt Ideal}

/-- The sum of `f` over the rows at the greatest distance. -/
def selSum (x : Pts) (t : (Fin 16384 → EReal) × Fin 16384) (f : Fin 16384 → EReal) : EReal :=
  ∑ p, if lower x t p = lower x t (arg (lower x t)) then f p else 0

theorem rowMajor_plane (a : Fin 8) (l : Fin 128) :
    ((⟨2, ![8, 128]⟩ : Shape).rowMajor (ix2 a l)).val = ((⟨3, ![1, 8, 128]⟩ : Shape).rowMajor (ix3 0 a l)).val := by
  rw [Shape.rowMajor_val_three, Shape.rowMajor_val_two]
  show a.val * 128 + l.val = (0 * 8 + a.val) * 128 + l.val
  omega

theorem v77_eq (X0 X1 X2 : FVec Ideal S16x8x128 .f32) (s : FastSt Ideal) (y : S16x8x128.Idx) :
    v77 X0 X1 X2 s y = Ideal.cmp .oeq (v50 X0 X1 X2 s y) (v72 X0 X1 X2 s (ix2 (y 1) (y 2))) := by
  unfold v77 k0_pay38
  rw [cmpf_apply]
  refine congrArg (Ideal.cmp .oeq (v50 X0 X1 X2 s y)) ?_
  refine (broadcastTo_apply _ _ _ (ix3 0 (y 1) (y 2)) fun a => match a with | ⟨0, _⟩ => rfl | ⟨1, _⟩ => rfl | ⟨2, _⟩ => rfl).trans ?_
  exact shapeCast_apply _ _ _ (ix2 (y 1) (y 2)) (rowMajor_plane (y 1) (y 2))

/-- A selected array is the array where the mask is set. -/
theorem masked (X0 X1 X2 : FVec Ideal S16x8x128 .f32) (s : FastSt Ideal) (f : Fin 16384 → EReal) (g z : FVec Ideal S16x8x128 .f32)
    (hg : g = fun y => f (row y)) (hz : z = fun _ => 0) :
    (select (v77 X0 X1 X2 s) g z : S16x8x128.Idx → EReal)
      = fun y => if v50 X0 X1 X2 s y = v72 X0 X1 X2 s (ix2 (y 1) (y 2)) then f (row y) else 0 := by
  subst hg hz
  funext y
  rw [select_apply, v77_eq, select_oeq]

theorem zeros (s : Shape) : (broadcast s (Scalar.ofBits (F := Ideal) .f32 0x00000000#32) : s.Idx → EReal) = fun _ => 0 :=
  funext fun _ => Ideal.ofBits_zero_f32

theorem one_eq : Scalar.ofBits (F := Ideal) .f32 0x3F800000#32 = (1 : EReal) := Ideal.ofBits_one_f32

theorem q0_eq (h : Rel x t s) (z : S8x1.Idx) : v168 (co x 0) (co x 1) (co x 2) s z = selSum x t fun p => x p 0 :=
  sel_sum h (fun p => x p 0) (v98 (co x 0) (co x 1) (co x 2) s)
    (congrArg (full (· + ·)) (masked (co x 0) (co x 1) (co x 2) s (fun p => x p 0) (k0_pay29 (co x 0)) _ (shapeCast_self _ _) (zeros _))) z

theorem q1_eq (h : Rel x t s) (z : S8x1.Idx) :
    k0_pay11 (v119 (co x 0) (co x 1) (co x 2) s) (v164 (co x 0) (co x 1) (co x 2) s) z = selSum x t fun p => x p 1 :=
  sel_sum h (fun p => x p 1) (v119 (co x 0) (co x 1) (co x 2) s)
    (congrArg (full (· + ·)) (masked (co x 0) (co x 1) (co x 2) s (fun p => x p 1) (k0_pay30 (co x 1)) _ (shapeCast_self _ _) (zeros _))) z

theorem q2_eq (h : Rel x t s) (z : S8x1.Idx) :
    k0_pay12 (v140 (co x 0) (co x 1) (co x 2) s) (v164 (co x 0) (co x 1) (co x 2) s) z = selSum x t fun p => x p 2 :=
  sel_sum h (fun p => x p 2) (v140 (co x 0) (co x 1) (co x 2) s)
    (congrArg (full (· + ·)) (masked (co x 0) (co x 1) (co x 2) s (fun p => x p 2) (k0_pay31 (co x 2)) _ (shapeCast_self _ _) (zeros _))) z

/-- The carried tie count after a trip: the larger of the one before and the trip's own. -/
theorem tie_eq (h : Rel x t s) (z : S8x1.Idx) :
    (fastStep (co x 0) (co x 1) (co x 2) s).1.2.2.2 z = max (s.1.2.2.2 z) (selSum x t fun _ => 1) :=
  congrArg (max (s.1.2.2.2 z)) (sel_sum h (fun _ => 1) (v162 (co x 0) (co x 1) (co x 2) s)
    (congrArg (full (· + ·)) (masked (co x 0) (co x 1) (co x 2) s (fun _ => 1) (broadcast S16x8x128 (Scalar.ofBits (F := Ideal) .f32 0x3F800000#32)) _
      (funext fun _ => one_eq) (zeros _))) z)

/-- It never falls. -/
theorem tie_mono (X0 X1 X2 : FVec Ideal S16x8x128 .f32) (s : FastSt Ideal) (z : S8x1.Idx) :
    (s.1.2.2.2 z : EReal) ≤ (fastStep X0 X1 X2 s).1.2.2.2 z := le_max_left (α := EReal) _ _

theorem selSum_eq (hc : selSum x t (fun _ => 1) ≤ 1) (f : Fin 16384 → EReal) : selSum x t f = f (arg (lower x t)) :=
  sum_ite_unique (fun p => lower x t p = lower x t (arg (lower x t))) (arg (lower x t))
    (unique_of_count_le (fun p => lower x t p = lower x t (arg (lower x t))) (arg (lower x t)) rfl hc) f

/-- Without a tie the trip takes the state of the sampling to the next. -/
theorem step_rel (h : Rel x t s) (hc : selSum x t (fun _ => 1) ≤ 1) :
    Rel x (next x t) (fastStep (co x 0) (co x 1) (co x 2) s) where
  a0 := funext fun i => by
    refine (congrArg₂ (· + ·) (broadcastTo_apply _ broadcasts_S8x1_S8x128 i (ix2 (i 0) 0) fun a => match a with | ⟨0, _⟩ => rfl | ⟨1, _⟩ => rfl)
      (Ideal.ofBits_zero_f32)).trans ?_
    exact (add_zero _).trans ((q0_eq h _).trans (selSum_eq hc _))
  a1 := funext fun i => by
    refine (congrArg₂ (· + ·) (broadcastTo_apply _ broadcasts_S8x1_S8x128 i (ix2 (i 0) 0) fun a => match a with | ⟨0, _⟩ => rfl | ⟨1, _⟩ => rfl)
      (Ideal.ofBits_zero_f32)).trans ?_
    exact (add_zero _).trans ((q1_eq h _).trans (selSum_eq hc _))
  a2 := funext fun i => by
    refine (congrArg₂ (· + ·) (broadcastTo_apply _ broadcasts_S8x1_S8x128 i (ix2 (i 0) 0) fun a => match a with | ⟨0, _⟩ => rfl | ⟨1, _⟩ => rfl)
      (Ideal.ofBits_zero_f32)).trans ?_
    exact (add_zero _).trans ((q2_eq h _).trans (selSum_eq hc _))
  d := pay33_eq h

/-- And the row that it writes is the picked point. -/
theorem row_eq (h : Rel x t s) (hc : selSum x t (fun _ => 1) ≤ 1) (j : Fin 3) :
    fastRow (co x 0) (co x 1) (co x 2) s (col j) = x (arg (lower x t)) j := by
  obtain ⟨r0, r1, r2⟩ := row3 (extractStridedSlice S1x1 ![0, 0] (v168 (co x 0) (co x 1) (co x 2) s) slices_S8x1_o0_0_S1x1)
    (extractStridedSlice S1x1 ![0, 0] (k0_pay11 (v119 (co x 0) (co x 1) (co x 2) s) (v164 (co x 0) (co x 1) (co x 2) s)) slices_S8x1_o0_0_S1x1)
    (extractStridedSlice S1x1 ![0, 0] (k0_pay12 (v140 (co x 0) (co x 1) (co x 2) s) (v164 (co x 0) (co x 1) (co x 2) s)) slices_S8x1_o0_0_S1x1)
  unfold fastRow k0_pay14
  match j with
  | 0 => exact r0.trans ((slice11 _ _).trans ((q0_eq h _).trans (selSum_eq hc _)))
  | 1 => exact r1.trans ((slice11 _ _).trans ((q1_eq h _).trans (selSum_eq hc _)))
  | 2 => exact r2.trans ((slice11 _ _).trans ((q2_eq h _).trans (selSum_eq hc _)))

theorem first_co (c : Fin 3) (i : S1x1x1.Idx) : first (F := Ideal) (co x c) i = x 0 c := rfl

theorem first_row (j : Fin 3) : k0_pay4 (first (F := Ideal) (co x 0)) (first (F := Ideal) (co x 1)) (first (F := Ideal) (co x 2)) (col j) = x 0 j := by
  obtain ⟨r0, r1, r2⟩ := row3 (k0_pay1 (first (F := Ideal) (co x 0))) (k0_pay2 (first (F := Ideal) (co x 1))) (k0_pay3 (first (F := Ideal) (co x 2)))
  match j with
  | 0 => exact r0
  | 1 => exact r1
  | 2 => exact r2

theorem far_eq : Named.named (F := Ideal) (φ := .f32) κ "far" 0x7149F2CA#32 = (⊤ : EReal) :=
  IdealRules.named_const.ideal_named_scalar κ "far" (φ := .f32) 0x7149F2CA#32 ⊤ rfl

theorem init_rel : Rel x (st x 0) (fastInit (co x 0) (co x 1) (co x 2)) where
  a0 := funext fun i => (congrArg (x 0 0 + ·) Ideal.ofBits_zero_f32).trans (add_zero _)
  a1 := funext fun i => (congrArg (x 0 1 + ·) Ideal.ofBits_zero_f32).trans (add_zero _)
  a2 := funext fun i => (congrArg (x 0 2 + ·) Ideal.ofBits_zero_f32).trans (add_zero _)
  d := funext fun i => far_eq

/-- With no tie counted up to trip `k`, the fast loop's state is the sampling's. -/
theorem rel_of_tie (n : ℕ) (z : S8x1.Idx) (hn : ((fastSt (co x 0) (co x 1) (co x 2) n).1.2.2.2 z : EReal) ≤ 1) :
    ∀ k ≤ n, Rel x (st x k) (fastSt (co x 0) (co x 1) (co x 2) k) ∧ (k < n → selSum x (st x k) (fun _ => 1) ≤ 1) := by
  have mono : ∀ k d, ((fastSt (co x 0) (co x 1) (co x 2) k).1.2.2.2 z : EReal) ≤ (fastSt (co x 0) (co x 1) (co x 2) (k + d)).1.2.2.2 z := by
    intro k d
    induction d with
    | zero => exact le_rfl
    | succ d ih => rw [← Nat.add_assoc, fastSt_succ]; exact ih.trans (tie_mono _ _ _ _ z)
  have count : ∀ k < n, Rel x (st x k) (fastSt (co x 0) (co x 1) (co x 2) k) → selSum x (st x k) (fun _ => 1) ≤ 1 := fun k hk h => by
    have e := tie_eq h z
    rw [← fastSt_succ] at e
    have m := mono (k + 1) (n - (k + 1))
    rw [Nat.add_sub_cancel' hk] at m
    exact (le_max_right _ _).trans (e.symm.le.trans (m.trans hn))
  intro k hk
  have hrel : Rel x (st x k) (fastSt (co x 0) (co x 1) (co x 2) k) := by
    induction k with
    | zero => exact init_rel
    | succ k ih =>
      have h := ih (by omega)
      rw [fastSt_succ, st_succ]
      exact step_rel h (count k (by omega) h)
  exact ⟨hrel, fun h => count k h hrel⟩

/-- So then are the rows that it leaves. -/
theorem fastOut_eq (z : S8x1.Idx) (hn : ((fastSt (co x 0) (co x 1) (co x 2) 4095).1.2.2.2 z : EReal) ≤ 1) (y : S4096x3.Idx) :
    fastOut (co x 0) (co x 1) (co x 2) y = x (st x (y 0).val).2 (y 1) := by
  have hy : (y 0).val < 4096 := (y 0).isLt
  unfold fastOut
  split
  · rename_i e
    rw [e]
    exact first_row (y 1)
  · rename_i k e
    rw [e]
    obtain ⟨h, hc⟩ := rel_of_tie 4095 z hn k (by omega)
    refine (row_eq h (hc (by omega)) (y 1)).trans ?_
    rw [st_succ]; rfl

end Cert.KernelIdeal.Fast

end
-- ==== Proof.Exact.lean ====
/-
  The exact loop over the extended reals takes the steps of farthest point sampling, ties included; with the fast loop,
  the centroids that the kernel leaves are the sampled points in either case of its conditional.
-/
module

public import proofs.«01_k».proof.Proof.Fast

@[expose] public section

set_option maxRecDepth 16384

noncomputable section

namespace Cert.KernelIdeal.Exact

open Cert.KernelIdeal Cert.KernelIdeal.Gen Cert.KernelIdeal.Fps Cert.KernelIdeal.Trip Cert.KernelIdeal.Fast Cert.Spec
open Idealize.ShloMosaic Idealize.ShloMosaic.ValueIdx

/-! ## The least word of a set -/

theorem minsi_fold_ge {ι : Type} [DecidableEq ι] (S : Finset ι) (acc m : BitVec 32) (f : ι → BitVec 32) (hacc : m.toInt ≤ acc.toInt)
    (hf : ∀ i ∈ S, m.toInt ≤ (f i).toInt) : m.toInt ≤ (S.fold (IKind.op .minsi) acc f).toInt := by
  induction S using Finset.induction_on with
  | empty => simpa using hacc
  | insert a S ha ih =>
    rw [Finset.fold_insert ha]
    have h1 := hf a (Finset.mem_insert_self _ _)
    have h2 := ih fun i hi => hf i (Finset.mem_insert_of_mem hi)
    show m.toInt ≤ (IntOp.minsi (f a) _).toInt
    unfold IntOp.minsi
    split <;> assumption

theorem minsi_fold_eq {ι : Type} [DecidableEq ι] (S : Finset ι) (acc m : BitVec 32) (f : ι → BitVec 32) (hacc : m.toInt ≤ acc.toInt)
    (hf : ∀ i ∈ S, m.toInt ≤ (f i).toInt) (i : ι) (hi : i ∈ S) (hm : f i = m) : S.fold (IKind.op .minsi) acc f = m := by
  rw [← Finset.insert_erase hi, Finset.fold_insert (Finset.notMem_erase _ _), hm]
  have h := minsi_fold_ge (S.erase i) acc m f hacc fun j hj => hf j (Finset.mem_of_mem_erase hj)
  show IntOp.minsi m _ = m
  unfold IntOp.minsi
  split
  · rfl
  · rename_i hs
    rw [BitVec.slt_iff_toInt_lt] at hs
    exact BitVec.eq_of_toInt_eq (by omega)

theorem toInt_row (n : ℕ) (h : n ≤ 16384) : (BitVec.ofNat 32 n).toInt = n := by
  rw [BitVec.toInt_ofNat', Int.bmod_def]
  split <;> omega

/-! ## The trip -/

/-- The exact loop's state that holds the distances and the last picked row of `t`. -/
structure Rel (x : Pts) (t : (Fin 16384 → EReal) × Fin 16384) (s : ExactSt Ideal) : Prop where
  a0 : s.1.1 = fun _ => x t.2 0
  a1 : s.1.2.1 = fun _ => x t.2 1
  a2 : s.1.2.2 = fun _ => x t.2 2
  d : s.2 = fun y => t.1 (row y)

variable {x : Pts} {t : (Fin 16384 → EReal) × Fin 16384} {s : ExactSt Ideal}

theorem pay48_eq (h : Rel x t s) :
    k0_pay48 s.1.1 s.1.2.1 s.1.2.2 (co x 0) (co x 1) (co x 2) s.2 = fun y => lower x t (row y) := by
  obtain ⟨⟨b0, b1, b2⟩, d⟩ := s
  obtain ⟨h0, h1, h2, h3⟩ := h
  dsimp only at h0 h1 h2 h3
  subst h0 h1 h2 h3
  funext y
  unfold k0_pay48 k0_pay45 k0_pay46 k0_pay47
  simp only [shapeCast_self]
  show min (t.1 (row y)) (((x (row y) 0 - x t.2 0) * (x (row y) 0 - x t.2 0) + (x (row y) 2 - x t.2 2) * (x (row y) 2 - x t.2 2))
    + (x (row y) 1 - x t.2 1) * (x (row y) 1 - x t.2 1)) = lower x t (row y)
  unfold lower Spec.sq
  rw [Fin.sum_univ_three, add_right_comm]

theorem pay20_eq (y : S16x8x128.Idx) : k0_pay20 y = BitVec.ofNat 32 (row y).val := by
  unfold k0_pay20
  show IntOp.addi (IntOp.addi (IntOp.muli _ 1024#32) (IntOp.muli _ 128#32)) _ = _
  rw [iota_single_apply, iota_single_apply, iota_single_apply]
  show BitVec.ofNat 32 (y 0).val * 1024#32 + BitVec.ofNat 32 (y 1).val * 128#32 + BitVec.ofNat 32 (y 2).val
    = BitVec.ofNat 32 ((y 0).val * 1024 + (y 1).val * 128 + (y 2).val)
  simp only [BitVec.ofNat_add, BitVec.ofNat_mul]

/-- A coordinate array with a leading unit axis, read at a position. -/
theorem lead1 {α : Type} (v : S16x8x128.Idx → α) (i : S1x16x8x128.Idx) :
    shapeCast S1x16x8x128 v shapeCasts_S16x8x128_S1x16x8x128 i = v (ix3 (i 1) (i 2) (i 3)) :=
  (shapeCast_addUnit_apply ![16, 8, 128] v shapeCasts_S16x8x128_S1x16x8x128 i).trans
    (congrArg v (eq_ix3 (n0 := 16) (n1 := 8) (n2 := 128) fun a => i a.succ))

theorem one_idx (i j : S1.Idx) : i = j := funext fun a => match a with
  | ⟨0, _⟩ => Fin.ext (by have h : (i 0).val < 1 := (i 0).isLt; have h' : (j 0).val < 1 := (j 0).isLt; show (i 0).val = (j 0).val; omega)

theorem row_ix3 (p : Fin 16384) : row (ix3 (pos p 0) (pos p 1) (pos p 2)) = p := (congrArg row (eq_ix3 (pos p)).symm).trans (row_pos p)

/-- The greatest of an array's elements. -/
theorem max_le (v : S16x8x128.Idx → EReal) (j : S1.Idx) (c : EReal) :
    (multiReduction (F := Ideal) (φ := .f32) .maximumf [1, 2, 3] S1 (shapeCast S1x16x8x128 v shapeCasts_S16x8x128_S1x16x8x128)
      0xFF800000#32 reduces_S1x16x8x128_S1 (.inl rfl) rfl j : EReal) ≤ c ↔ ∀ p, v (pos p) ≤ c := by
  have e : (multiReduction (F := Ideal) (φ := .f32) .maximumf [1, 2, 3] S1 (shapeCast S1x16x8x128 v shapeCasts_S16x8x128_S1x16x8x128)
      0xFF800000#32 reduces_S1x16x8x128_S1 (.inl rfl) rfl j : EReal)
      = (Finset.univ.filter fun i => reduces_S1x16x8x128_S1.drop i = j).fold max (FloatOps.ofBits (F := Ideal) .f32 (FKind.maximumf.neutral .f32 (.inl rfl)))
        (shapeCast S1x16x8x128 v shapeCasts_S16x8x128_S1x16x8x128) :=
    multiReduction_maximumf_eq_fold (F := Ideal) (φ := .f32) (shapeCast S1x16x8x128 v shapeCasts_S16x8x128_S1x16x8x128)
      0xFF800000#32 reduces_S1x16x8x128_S1 (.inl rfl) rfl j
  rw [e, negInf_eq, Finset.fold_max_le]
  refine ⟨fun H p => ?_, fun H => ⟨bot_le, fun i _ => ?_⟩⟩
  · have h := H.2 (ix4 0 (pos p 0) (pos p 1) (pos p 2)) (Finset.mem_filter.2 ⟨Finset.mem_univ _, one_idx _ _⟩)
    rw [lead1] at h
    exact (congrArg v (eq_ix3 (pos p))).le.trans h
  · rw [lead1]
    have h := H (row (ix3 (i 1) (i 2) (i 3)))
    rwa [pos_row] at h

/-- The least of an array's words, where `m` is one of them and none is less. -/
theorem min_eq (v : S16x8x128.Idx → BitVec 32) (j : S1.Idx) (m : BitVec 32) (hm : ∀ y, m.toInt ≤ (v y).toInt) (y : S16x8x128.Idx) (hy : v y = m) :
    multiReductionI .minsi [1, 2, 3] S1 (shapeCast S1x16x8x128 v shapeCasts_S16x8x128_S1x16x8x128)
      2147483647#32 reduces_S1x16x8x128_S1 rfl j = m := by
  classical
  refine (multiReductionI_eq_fold .minsi _ _ reduces_S1x16x8x128_S1 rfl j).trans ?_
  refine minsi_fold_eq _ _ m _ ?_ (fun i _ => by rw [lead1]; exact hm _) (ix4 0 (y 0) (y 1) (y 2))
    (Finset.mem_filter.2 ⟨Finset.mem_univ _, one_idx _ _⟩) ?_
  · have h := BitVec.toInt_lt (x := m)
    have e : (IKind.minsi.neutral).toInt = 2147483647 := by decide
    rw [e]; omega
  · rw [lead1]
    exact (congrArg v (eq_ix3 y).symm).trans hy

/-- The sum of an array's elements. -/
theorem sum_eq (v : S16x8x128.Idx → EReal) (j : S1.Idx) :
    multiReduction (F := Ideal) (φ := .f32) .add [1, 2, 3] S1 (shapeCast S1x16x8x128 v shapeCasts_S16x8x128_S1x16x8x128)
      0x00000000#32 reduces_S1x16x8x128_S1 (.inl rfl) rfl j = ∑ p, v (pos p) := by
  refine (Ideal.multiReduction_add_total (φ := .f32) _ _ reduces_S1x16x8x128_S1 (by decide) (.inl rfl) rfl j).trans ?_
  refine (Equiv.sum_comp (Shape.reshapeEquiv shapeCasts_S16x8x128_S1x16x8x128) v).trans ?_
  exact (Equiv.sum_comp rowEquiv.symm v).symm

/-- The least row number among the points at the greatest distance. -/
theorem least_row (g : FVec Ideal S16x8x128 .f32) (hg : ∀ y, g y = lower x t (arg (lower x t))) (j : S1.Idx) :
    multiReductionI .minsi [1, 2, 3] S1
      (shapeCast S1x16x8x128 (select (cmpf (F := Ideal) (φ := .f32) .oeq (fun y => lower x t (row y)) g) k0_pay20 (broadcast S16x8x128 16384#32))
        shapeCasts_S16x8x128_S1x16x8x128)
      2147483647#32 reduces_S1x16x8x128_S1 rfl j = BitVec.ofNat 32 (arg (lower x t)).val := by
  have hv : ∀ y, select (cmpf (F := Ideal) (φ := .f32) .oeq (fun y => lower x t (row y)) g) k0_pay20 (broadcast S16x8x128 16384#32) y
      = if lower x t (row y) = lower x t (arg (lower x t)) then BitVec.ofNat 32 (row y).val else 16384#32 := fun y => by
    rw [← pay20_eq, ← hg y]
    show Scalar.select (Ideal.cmp .oeq (lower x t (row y)) (g y)) _ _ = _
    unfold Scalar.select Ideal.cmp
    by_cases h : lower x t (row y) = g y
    · simp [h]
    · simp [h]; rfl
  have ha := (arg (lower x t)).isLt
  refine min_eq _ j _ (fun y => ?_) (pos (arg (lower x t))) ?_
  · have hr := (row y).isLt
    rw [hv, toInt_row _ (by omega)]
    split
    · rename_i h
      rw [toInt_row _ (by omega)]
      have h1 : ¬ (row y) < arg (lower x t) := fun hlt =>
        absurd hlt (not_lt.2 ((arg_isArg (lower x t)).2 _ h))
      have := Fin.not_lt.1 h1
      exact_mod_cast this
    · rw [show (16384#32 : BitVec 32).toInt = 16384 from by decide]; omega
  · rw [hv, row_pos, if_pos rfl]

theorem greatest (j : S1.Idx) : (multiReduction (F := Ideal) (φ := .f32) .maximumf [1, 2, 3] S1
    (shapeCast S1x16x8x128 (fun y => lower x t (row y)) shapeCasts_S16x8x128_S1x16x8x128)
    0xFF800000#32 reduces_S1x16x8x128_S1 (.inl rfl) rfl j : EReal) = lower x t (arg (lower x t)) :=
  le_antisymm ((max_le _ j _).2 fun p => by rw [row_pos]; exact (arg_isArg _).1 _) (by
    have h := (max_le (fun y => lower x t (row y)) j _).1 le_rfl (arg (lower x t))
    rwa [row_pos] at h)

/-- A value taken out of a one-element vector and spread over the positions. -/
theorem spread {α : Type} (v : S1.Idx → α) (m : α) (hv : ∀ j, v j = m) (y : S16x8x128.Idx) :
    broadcastTo S16x8x128 (broadcast S1x1x1 (extractAt ![0, 0, 0, 0] (shapeCast S1x1x1x1 v shapeCasts_S1_S1x1x1x1) inpos_S1x1x1x1_p0_0_0_0))
      broadcasts_S1x1x1_S16x8x128 y = m := hv _

theorem spread1 {α : Type} (v : S1.Idx → α) (m : α) (hv : ∀ j, v j = m) :
    broadcast S1x1x1 (extractAt ![0, 0, 0, 0] (shapeCast S1x1x1x1 v shapeCasts_S1_S1x1x1x1) inpos_S1x1x1x1_p0_0_0_0) = fun _ => m :=
  funext fun _ => hv _

/-- The trip's mask: the first row at the greatest distance. -/
theorem v90_eq (h : Rel x t s) (y : S16x8x128.Idx) (u v : EReal) :
    Scalar.select (v90 (co x 0) (co x 1) (co x 2) s y) u v = if row y = arg (lower x t) then u else v := by
  have hm : v90 (co x 0) (co x 1) (co x 2) s y = IntOp.cmpi .eq (BitVec.ofNat 32 (row y).val) (BitVec.ofNat 32 (arg (lower x t)).val) := by
    unfold v90 k0_pay50
    rw [pay48_eq h]
    refine congrArg₂ (IntOp.cmpi .eq) (pay20_eq y) ?_
    exact spread _ _ (fun j => least_row _ (fun y => spread _ _ (fun j => greatest j) y) j) y
  rw [hm]
  have hr := (row y).isLt
  have ha := (arg (lower x t)).isLt
  by_cases e : row y = arg (lower x t)
  · rw [if_pos e, e]; simp [IntOp.cmpi, Scalar.select]
  · rw [if_neg e]
    have : BitVec.ofNat 32 (row y).val ≠ BitVec.ofNat 32 (arg (lower x t)).val := fun h => e (Fin.ext (by
      have := congrArg BitVec.toNat h
      rw [BitVec.toNat_ofNat, BitVec.toNat_ofNat, Nat.mod_eq_of_lt (by omega), Nat.mod_eq_of_lt (by omega)] at this
      exact this))
    simp [IntOp.cmpi, Scalar.select, beq_eq_false_iff_ne.2 this]

/-- The sum of a coordinate under the trip's mask is the coordinate of the picked row. -/
theorem pick (h : Rel x t s) (c : Fin 3) (w : FVec Ideal S16x8x128 .f32) (z : FVec Ideal S16x8x128 .f32) (hw : w = co x c) (hz : ∀ y, z y = (0 : EReal)) (j : S1.Idx) :
    multiReduction (F := Ideal) (φ := .f32) .add [1, 2, 3] S1
      (shapeCast S1x16x8x128 (select (v90 (co x 0) (co x 1) (co x 2) s) w z) shapeCasts_S16x8x128_S1x16x8x128)
      0x00000000#32 reduces_S1x16x8x128_S1 (.inl rfl) rfl j = x (arg (lower x t)) c := by
  subst hw
  rw [sum_eq]
  have e : ∀ p, select (v90 (co x 0) (co x 1) (co x 2) s) (co x c) z (pos p) = if p = arg (lower x t) then x p c else 0 := fun p => by
    rw [select_apply, v90_eq h, row_pos, hz]
    unfold co
    rw [row_pos]
  rw [Finset.sum_congr rfl fun p _ => e p]
  exact sum_ite_unique (fun p => p = arg (lower x t)) (arg (lower x t)) (fun p => Iff.rfl) fun p => x p c

theorem pick0 (h : Rel x t s) : k0_pay25 (F := Ideal) (k0_pay45 (co x 0)) (v90 (co x 0) (co x 1) (co x 2) s) k0_pay51 = fun _ => x (arg (lower x t)) 0 := by
  unfold k0_pay25
  exact spread1 _ _ fun j => pick h 0 _ _ (shapeCast_self _ _) (fun _ => Ideal.ofBits_zero_f32) j

theorem pick1 (h : Rel x t s) : k0_pay26 (F := Ideal) (k0_pay46 (co x 1)) (v90 (co x 0) (co x 1) (co x 2) s) = fun _ => x (arg (lower x t)) 1 := by
  unfold k0_pay26
  exact spread1 _ _ fun j => pick h 1 _ _ (shapeCast_self _ _) (fun _ => Ideal.ofBits_zero_f32) j

theorem pick2 (h : Rel x t s) : k0_pay27 (F := Ideal) (k0_pay47 (co x 2)) (v90 (co x 0) (co x 1) (co x 2) s) = fun _ => x (arg (lower x t)) 2 := by
  unfold k0_pay27
  exact spread1 _ _ fun j => pick h 2 _ _ (shapeCast_self _ _) (fun _ => Ideal.ofBits_zero_f32) j

theorem step_rel (h : Rel x t s) : Rel x (next x t) (exactStep (co x 0) (co x 1) (co x 2) s) := by
  refine ⟨pick0 h, pick1 h, pick2 h, ?_⟩
  show k0_pay49 _ _ _ _ _ _ _ = _
  unfold k0_pay49
  rw [pay48_eq h]
  exact shapeCast_self _ _

theorem row_eq (h : Rel x t s) (j : Fin 3) : exactRow (co x 0) (co x 1) (co x 2) s (col j) = x (arg (lower x t)) j := by
  obtain ⟨r0, r1, r2⟩ := row3 (shapeCast S1x1 (k0_pay25 (F := Ideal) (k0_pay45 (co x 0)) (v90 (co x 0) (co x 1) (co x 2) s) k0_pay51) shapeCasts_S1x1x1_S1x1)
    (shapeCast S1x1 (k0_pay26 (F := Ideal) (k0_pay46 (co x 1)) (v90 (co x 0) (co x 1) (co x 2) s)) shapeCasts_S1x1x1_S1x1)
    (shapeCast S1x1 (k0_pay27 (F := Ideal) (k0_pay47 (co x 2)) (v90 (co x 0) (co x 1) (co x 2) s)) shapeCasts_S1x1x1_S1x1)
  unfold exactRow k0_pay28
  match j with
  | 0 => exact r0.trans (by rw [pick0 h]; rfl)
  | 1 => exact r1.trans (by rw [pick1 h]; rfl)
  | 2 => exact r2.trans (by rw [pick2 h]; rfl)

theorem init_rel : Rel x (st x 0) (exactInit (co x 0) (co x 1) (co x 2)) where
  a0 := funext fun _ => rfl
  a1 := funext fun _ => rfl
  a2 := funext fun _ => rfl
  d := funext fun _ => far_eq

theorem rel_all (k : ℕ) : Rel x (st x k) (exactSt (co x 0) (co x 1) (co x 2) k) := by
  induction k with
  | zero => exact init_rel
  | succ k ih => rw [exactSt_succ, st_succ]; exact step_rel ih

/-- The rows that the exact loop leaves are the sampled points. -/
theorem exactOut_eq (y : S4096x3.Idx) : exactOut (co x 0) (co x 1) (co x 2) y = x (st x (y 0).val).2 (y 1) := by
  unfold exactOut
  split
  · rename_i e
    rw [e]
    exact first_row (y 1)
  · rename_i k e
    rw [e, st_succ]
    exact row_eq (rel_all k) (y 1)

/-! ## The conditional -/

theorem le_pay19 (v : FVec Ideal S8x1 .f32) (z : S8x1.Idx) : (v z : EReal) ≤ k0_pay19 v := by
  have hm : ∀ j, (v z : EReal) ≤ multiReduction (F := Ideal) (φ := .f32) .maximumf [1, 2] S1 (shapeCast S1x8x1 v shapeCasts_S8x1_S1x8x1)
      0xFF800000#32 reduces_S1x8x1_S1 (.inl rfl) rfl j := fun j => by
    have e : (multiReduction (F := Ideal) (φ := .f32) .maximumf [1, 2] S1 (shapeCast S1x8x1 v shapeCasts_S8x1_S1x8x1)
        0xFF800000#32 reduces_S1x8x1_S1 (.inl rfl) rfl j : EReal)
        = (Finset.univ.filter fun i => reduces_S1x8x1_S1.drop i = j).fold max (FloatOps.ofBits (F := Ideal) .f32 (FKind.maximumf.neutral .f32 (.inl rfl)))
          (shapeCast S1x8x1 v shapeCasts_S8x1_S1x8x1) :=
      multiReduction_maximumf_eq_fold (F := Ideal) (φ := .f32) (shapeCast S1x8x1 v shapeCasts_S8x1_S1x8x1)
        0xFF800000#32 reduces_S1x8x1_S1 (.inl rfl) rfl j
    rw [e]
    have h := (Finset.fold_max_le (b := (FloatOps.ofBits (F := Ideal) .f32 (FKind.maximumf.neutral .f32 (.inl rfl)) : EReal))
      (f := (shapeCast S1x8x1 v shapeCasts_S8x1_S1x8x1 : S1x8x1.Idx → EReal))
      (s := Finset.univ.filter fun i => reduces_S1x8x1_S1.drop i = j) _).1 le_rfl
    have h2 := h.2 ((Shape.reshapeEquiv shapeCasts_S8x1_S1x8x1).symm z) (Finset.mem_filter.2 ⟨Finset.mem_univ _, one_idx _ _⟩)
    refine le_trans (le_of_eq ?_) h2
    unfold shapeCast
    rw [Equiv.apply_symm_apply]
  exact hm _

/-- If the conditional takes the fast loop's result, no tie was counted. -/
theorem le_of_not_tied (X0 X1 X2 : FVec Ideal S16x8x128 .f32) (z : S8x1.Idx) (v : FVec Ideal S8x1 .f32) (hv : v = (fastSt X0 X1 X2 4095).1.2.2.2)
    (h : tied X0 X1 X2 ≠ 1#1) : (v z : EReal) ≤ 1 := by
  by_contra hc
  refine h ?_
  have h1 : (1 : EReal) < k0_pay19 v := (not_le.1 hc).trans_le (le_pay19 _ z)
  unfold tied
  rw [← hv]
  have e : Scalar.cmpf (F := Ideal) (φ := .f32) .ogt (k0_pay19 v) (FloatOps.ofBits .f32 0x3F800000#32) = 1#1 := by
    show Ideal.cmp .ogt _ (Ideal.ofBits .f32 0x3F800000#32) = 1#1
    rw [Ideal.ofBits_one_f32]
    unfold Ideal.cmp
    simp [h1]
  rw [e]
  decide

/-- What the kernel leaves: the sampled points. -/
theorem fpsOut_eq (y : S4096x3.Idx) : fpsOut (co x 0) (co x 1) (co x 2) y = x (st x (y 0).val).2 (y 1) := by
  unfold fpsOut
  split
  · exact exactOut_eq y
  · rename_i h
    exact fastOut_eq (ix2 0 0) (le_of_not_tied _ _ _ _ _ rfl h) y

end Cert.KernelIdeal.Exact

end
-- ==== Proof.Arrays.lean ====
/-
  The kernel program's results as arrays: the coordinates that the farthest-point kernel reads are the columns of the
  points, and the two arrays at the end hold the centroids and the blocks of weights.
-/
module

public import proofs.«01_k».proof.Proof.Exact
public import proofs.«01_k».proof.Proof.KRun
public import Idealize.ShloMosaic.Lib.Pipeline.ValueKit.Geometry

@[expose] public section

set_option maxRecDepth 16384

noncomputable section

namespace Cert.KernelIdeal.Arrays

open Cert.KernelIdeal Cert.KernelIdeal.Gen Cert.KernelIdeal.Trip Cert.KernelIdeal.Run Cert.Spec
open Idealize.ShloMosaic Idealize.ShloMosaic.TcCoe Idealize.ShloMosaic.ValueIdx

variable (m : (ℓ : Loc nD τ sig) → Buf (Elt Ideal) ℓ) (c : Dev nD)

/-- The points: the argument's rows. -/
def pts : Pts := fun p k => (m ((c : Thread nD τ).loc main_arg0) : S16384x3.Idx → EReal) (ix2 p k)

/-- The points, transposed and cut into blocks; -/
def blocks : FVec Ideal S3x16x8x128 .f32 :=
  shapeCast S3x16x8x128 (transpose S3x16384 [1, 0] (m ((c : Thread nD τ).loc main_arg0) : S16384x3.Idx → EReal) transposes_S16384x3_S3x16384_1_0)
    shapeCasts_S3x16384_S3x16x8x128

theorem blocks_apply (k : Fin 3) (y : S16x8x128.Idx) : blocks m c (ix4 k (y 0) (y 1) (y 2)) = pts m c (row y) k := by
  unfold blocks
  refine (shapeCast_apply _ _ _ (ix2 k (row y)) ?_).trans ?_
  · rw [Shape.rowMajor_val_two, Shape.rowMajor_val_four]
    show k.val * 16384 + ((y 0).val * 1024 + (y 1).val * 128 + (y 2).val) = ((k.val * 16 + (y 0).val) * 8 + (y 1).val) * 128 + (y 2).val
    omega
  · exact transpose_apply _ _ _ _ _ fun a => match a with | ⟨0, _⟩ => rfl | ⟨1, _⟩ => rfl

theorem V1_v3 : V1 m c main_v3 = shapeCast S16x8x128 (extractStridedSlice S1x16x8x128 ![0, 0, 0, 0] (blocks m c) slices_S3x16x8x128_S1x16x8x128_0_0_0_0)
    shapeCasts_S1x16x8x128_S16x8x128 := rfl

theorem V1_v5 : V1 m c main_v5 = shapeCast S16x8x128 (extractStridedSlice S1x16x8x128 ![1, 0, 0, 0] (blocks m c) slices_S3x16x8x128_S1x16x8x128_1_0_0_0)
    shapeCasts_S1x16x8x128_S16x8x128 := rfl

theorem V1_v7 : V1 m c main_v7 = shapeCast S16x8x128 (extractStridedSlice S1x16x8x128 ![2, 0, 0, 0] (blocks m c) slices_S3x16x8x128_S1x16x8x128_2_0_0_0)
    shapeCasts_S1x16x8x128_S16x8x128 := rfl

theorem cut_apply {α : Type} (v : S1x16x8x128.Idx → α) (y : S16x8x128.Idx) :
    shapeCast S16x8x128 v shapeCasts_S1x16x8x128_S16x8x128 y = v (ix4 0 (y 0) (y 1) (y 2)) := by
  refine shapeCast_apply _ _ _ _ ?_
  rw [Shape.rowMajor_val_three, Shape.rowMajor_val_four]
  show ((0 * 16 + (y 0).val) * 8 + (y 1).val) * 128 + (y 2).val = ((y 0).val * 8 + (y 1).val) * 128 + (y 2).val
  omega

theorem v3_eq : V1 m c main_v3 = co (pts m c) 0 := by
  rw [V1_v3]
  funext y
  refine (cut_apply _ y).trans ((extractStridedSlice_apply _ _ _ _ (ix4 0 (y 0) (y 1) (y 2)) fun a => ?_).trans (blocks_apply m c 0 y))
  match a with
  | ⟨0, _⟩ => rfl
  | ⟨1, _⟩ => exact (Nat.zero_add _).symm
  | ⟨2, _⟩ => exact (Nat.zero_add _).symm
  | ⟨3, _⟩ => exact (Nat.zero_add _).symm

theorem v5_eq : V1 m c main_v5 = co (pts m c) 1 := by
  rw [V1_v5]
  funext y
  refine (cut_apply _ y).trans ((extractStridedSlice_apply _ _ _ _ (ix4 1 (y 0) (y 1) (y 2)) fun a => ?_).trans (blocks_apply m c 1 y))
  match a with
  | ⟨0, _⟩ => rfl
  | ⟨1, _⟩ => exact (Nat.zero_add _).symm
  | ⟨2, _⟩ => exact (Nat.zero_add _).symm
  | ⟨3, _⟩ => exact (Nat.zero_add _).symm

theorem v7_eq : V1 m c main_v7 = co (pts m c) 2 := by
  rw [V1_v7]
  funext y
  refine (cut_apply _ y).trans ((extractStridedSlice_apply _ _ _ _ (ix4 2 (y 0) (y 1) (y 2)) fun a => ?_).trans (blocks_apply m c 2 y))
  match a with
  | ⟨0, _⟩ => rfl
  | ⟨1, _⟩ => exact (Nat.zero_add _).symm
  | ⟨2, _⟩ => exact (Nat.zero_add _).symm
  | ⟨3, _⟩ => exact (Nat.zero_add _).symm

/-- The centroids: the sampled points. -/
def C (x : Pts) : FVec Ideal S4096x3 .f32 := fun y => x (st x (y 0).val).2 (y 1)

theorem read0_0 (V : Reg.Vals Ideal) : ((cfg0.win 0).blk t0_0).view.read (Elt Ideal) (V c main_v3) = V c main_v3 := by
  funext y
  blk_simp
  refine congrArg (V c main_v3) ?_
  blk_ext [show win0_0.index t0_0 = ![0, 0, 0] from by decide +kernel]

theorem read0_1 (V : Reg.Vals Ideal) : ((cfg0.win 1).blk t0_0).view.read (Elt Ideal) (V c main_v5) = V c main_v5 := by
  funext y
  blk_simp
  refine congrArg (V c main_v5) ?_
  blk_ext [show win0_1.index t0_0 = ![0, 0, 0] from by decide +kernel]

theorem read0_2 (V : Reg.Vals Ideal) : ((cfg0.win 2).blk t0_0).view.read (Elt Ideal) (V c main_v7) = V c main_v7 := by
  funext y
  blk_simp
  refine congrArg (V c main_v7) ?_
  blk_ext [show win0_2.index t0_0 = ![0, 0, 0] from by decide +kernel]

/-- What the farthest-point kernel leaves in its output's buffer, from any contents at its entry. -/
theorem after0_of (V : Reg.Vals Ideal) (X0 X1 X2 : FVec Ideal S16x8x128 .f32) (h0 : V c main_v3 = X0) (h1 : V c main_v5 = X1) (h2 : V c main_v7 = X2) :
    (Reg.dat0 V c).after 3 t0_0 = Fps.fpsOut X0 X1 X2 := by
  rw [← h0, ← h1, ← h2]
  dsimp only [Reg.dat0]
  rw [read0_0, read0_1, read0_2]

theorem after0 : (Reg.dat0 (VA m) c).after 3 t0_0 = C (pts m c) :=
  (after0_of c (VA m) _ _ _ (v3_eq m c) (v5_eq m c) (v7_eq m c)).trans (funext Exact.fpsOut_eq)

/-- The first result. -/
theorem cents_eq : cents m c = C (pts m c) := by
  unfold cents
  refine (Reg.dat0 (VA m) c).arrAt_eq_of_covers 3 _ (by decide +kernel) fun t hf y => ?_
  obtain rfl := fin_N0 t
  blk_simp
  have e : (win0_3.blk t0_0).view.emb y = y := by
    blk_ext [show win0_3.index t0_0 = ![0, 0] from by decide +kernel]
  rw [e]
  exact congrFun (after0 m c) y

end Cert.KernelIdeal.Arrays

end
-- ==== Proof.Soft.lean ====
/-
  The weights of one point: how near it is to each centroid, the softmax over the centroids of the zero-or-one array
  that says which of them are near, and the same numbers from the count of the near ones.
-/
module

public import Idealize.ShloMosaic.Lib.IdealHost
public import Idealize.ShloMosaic.PureOps.Ideal.Laws

@[expose] public section

noncomputable section

namespace Cert.Spec

open Idealize.ShloMosaic

/-- The square of the radius, as both programs write it; -/
def radius2 : EReal := Ideal.ofBits .f32 0x3D23D70A#32
/-- the factor of the product; -/
def two : EReal := Ideal.ofBits .f32 0x40000000#32
/-- the number of centroids; -/
def nd : EReal := Ideal.ofBits .f32 0x45800000#32
/-- the exponential of minus one. -/
def einv : EReal := Ideal.exp (Ideal.ofBits .f32 0xBF800000#32)

theorem nd_eq : nd = ((4096 : ℝ) : EReal) := by
  unfold nd
  simp [Ideal.ofBits, Ideal.ieee, -EReal.coe_mul]; norm_num

theorem neg_one_eq : Ideal.ofBits .f32 0xBF800000#32 = ((-1 : ℝ) : EReal) := by
  simp [Ideal.ofBits, Ideal.ieee, -EReal.coe_mul, -EReal.coe_neg]; norm_num

theorem einv_eq : einv = ((Real.exp (-1) : ℝ) : EReal) := by
  unfold einv
  rw [neg_one_eq]; rfl

theorem coe_sum' {ι : Type} (S : Finset ι) (f : ι → ℝ) : ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]

/-- The squared distance of two points, by the two squares and the product. -/
def dist2 (a b : Fin 3 → EReal) : EReal := ((∑ c, a c * a c) + ∑ c, b c * b c) - two * ∑ c, a c * b c

/-- The one is within the radius of the other. -/
def near (a b : Fin 3 → EReal) : Prop := dist2 a b < radius2

open Classical in
/-- One if near, zero if not. -/
def ind (a b : Fin 3 → EReal) : EReal := if near a b then 1 else 0

variable (a : Fin 3 → EReal) (B : Fin 4096 → Fin 3 → EReal)

/-- How many centroids are near. -/
def hits : EReal := ∑ j, ind a (B j)

open Classical in
/-- The softmax's denominator from the count; -/
def denom : EReal := if 0 < hits a B then hits a B + (nd - hits a B) * einv else nd

open Classical in
/-- a weight from the count. -/
def weight (j : Fin 4096) : EReal :=
  if near a (B j) then Ideal.div 1 (denom a B) else Ideal.div (if 0 < hits a B then einv else 1) (denom a B)

open Classical in
/-- The greatest of the zeros and ones. -/
def top : EReal := if ∃ j, near a (B j) then 1 else 0

open Classical in
theorem hits_eq : hits a B = (((∑ j, if near a (B j) then (1 : ℝ) else 0) : ℝ) : EReal) := by
  unfold hits ind
  rw [coe_sum']
  exact Finset.sum_congr rfl fun j _ => by split <;> simp

theorem hits_pos (h : ∃ j, near a (B j)) : 0 < hits a B := by
  classical
  rw [hits_eq, EReal.coe_pos]
  obtain ⟨j, hj⟩ := h
  exact Finset.sum_pos' (fun i _ => by split <;> norm_num) ⟨j, Finset.mem_univ _, by rw [if_pos hj]; norm_num⟩

/-- The softmax's weight is the weight from the count. -/
theorem soft (j : Fin 4096) :
    Ideal.div (Ideal.exp (ind a (B j) - top a B)) (∑ i, Ideal.exp (ind a (B i) - top a B)) = weight a B j := by
  classical
  by_cases h : ∃ i, near a (B i)
  · have ht : top a B = 1 := if_pos h
    have e : ∀ i, Ideal.exp (ind a (B i) - top a B) = (((if near a (B i) then 1 else Real.exp (-1)) : ℝ) : EReal) := fun i => by
      rw [ht]
      unfold ind
      split
      · rw [show ((1 : EReal) - 1) = ((0 : ℝ) : EReal) by rw [← EReal.coe_one, ← EReal.coe_sub, sub_self]]
        show ((Real.exp 0 : ℝ) : EReal) = _
        rw [Real.exp_zero]
      · rw [show ((0 : EReal) - 1) = ((-1 : ℝ) : EReal) by rw [← EReal.coe_one, ← EReal.coe_zero, ← EReal.coe_sub, zero_sub]]
        rfl
    have hs : (∑ i, Ideal.exp (ind a (B i) - top a B)) = denom a B := by
      unfold denom
      rw [if_pos (hits_pos a B h), hits_eq, nd_eq, einv_eq, ← EReal.coe_sub, ← EReal.coe_mul, ← EReal.coe_add,
        Finset.sum_congr rfl fun i _ => e i, ← coe_sum']
      refine congrArg _ ?_
      have e2 : ∀ i, (if near a (B i) then (1 : ℝ) else Real.exp (-1))
          = (if near a (B i) then (1 : ℝ) else 0) * (1 - Real.exp (-1)) + Real.exp (-1) := fun i => by split <;> ring
      rw [Finset.sum_congr rfl fun i _ => e2 i, Finset.sum_add_distrib, ← Finset.sum_mul, Finset.sum_const, Finset.card_univ, Fintype.card_fin]
      simp only [nsmul_eq_mul]
      push_cast
      ring
    rw [hs, e j]
    unfold weight
    rw [if_pos (hits_pos a B h), einv_eq]
    split <;> simp
  · have ht : top a B = 0 := if_neg h
    have hn : ∀ i, ¬ near a (B i) := fun i hi => h ⟨i, hi⟩
    have e : ∀ i, Ideal.exp (ind a (B i) - top a B) = ((1 : ℝ) : EReal) := fun i => by
      rw [ht]
      unfold ind
      rw [if_neg (hn i), show ((0 : EReal) - 0) = ((0 : ℝ) : EReal) by simp]
      show ((Real.exp 0 : ℝ) : EReal) = _
      rw [Real.exp_zero]
    have h0 : hits a B = 0 := by
      unfold hits ind
      exact Finset.sum_eq_zero fun i _ => if_neg (hn i)
    have hd : denom a B = nd := by
      unfold denom
      rw [h0, if_neg (lt_irrefl _)]
    unfold weight
    rw [if_neg (hn j), h0, if_neg (lt_irrefl _), hd, e j, Finset.sum_congr rfl fun i _ => e i, ← coe_sum', nd_eq, EReal.coe_one]
    refine congrArg _ (congrArg _ ?_)
    simp

end Cert.Spec

end
-- ==== Proof.Weights.lean ====
/-
  The grouping kernel over the extended reals: a block of weights entry by entry, and the array of weights at the end of
  the kernel program.
-/
module

public import proofs.«01_k».proof.Proof.Arrays
public import proofs.«01_k».proof.Proof.Soft

@[expose] public section

set_option maxRecDepth 16384

noncomputable section

namespace Cert.KernelIdeal.Weights

open Cert.KernelIdeal Cert.KernelIdeal.Gen Cert.KernelIdeal.Trip Cert.KernelIdeal.Run Cert.KernelIdeal.Arrays Cert.Spec
open Idealize.ShloMosaic Idealize.ShloMosaic.TcCoe Idealize.ShloMosaic.ValueIdx

variable (X0 : FVec Ideal S1024x3 .f32) (X1 : FVec Ideal S3x4096 .f32)

/-- A row of a block of points; -/
def pt (r : Fin 1024) : Fin 3 → EReal := fun k => X0 (ix2 r k)
/-- the centroids, from their columns. -/
def cs : Fin 4096 → Fin 3 → EReal := fun j k => X1 (ix2 k j)

theorem squares0 (v : FVec Ideal S1024x3 .f32) (r : Fin 1024) :
    multiReduction (F := Ideal) (φ := .f32) .add [1] S1024 v 0x00000000#32 reduces_S1024x3_S1024 (.inl rfl) rfl (ix1 r) = ∑ k : Fin 3, (v (ix2 r k) : EReal) := by
  refine (Ideal.multiReduction_add_single (φ := .f32) _ _ reduces_S1024x3_S1024 (.inl rfl) rfl _).trans ?_
  refine Finset.sum_congr rfl fun k _ => congrArg v ?_
  funext b
  match b with
  | ⟨0, _⟩ => rfl
  | ⟨1, _⟩ => rfl

theorem squares1 (v : FVec Ideal S3x4096 .f32) (j : Fin 4096) :
    multiReduction (F := Ideal) (φ := .f32) .add [0] S4096 v 0x00000000#32 reduces_S3x4096_S4096 (.inl rfl) rfl (ix1 j) = ∑ k : Fin 3, (v (ix2 k j) : EReal) := by
  refine (Ideal.multiReduction_add_single (φ := .f32) _ _ reduces_S3x4096_S4096 (.inl rfl) rfl _).trans ?_
  refine Finset.sum_congr rfl fun k _ => congrArg v ?_
  funext b
  match b with
  | ⟨0, _⟩ => rfl
  | ⟨1, _⟩ => rfl

theorem total (v : FVec Ideal S1024x4096 .f32) (r : Fin 1024) :
    multiReduction (F := Ideal) (φ := .f32) .add [1] S1024 v 0x00000000#32 reduces_S1024x4096_S1024 (.inl rfl) rfl (ix1 r) = ∑ j : Fin 4096, (v (ix2 r j) : EReal) := by
  refine (Ideal.multiReduction_add_single (φ := .f32) _ _ reduces_S1024x4096_S1024 (.inl rfl) rfl _).trans ?_
  refine Finset.sum_congr rfl fun k _ => congrArg v ?_
  funext b
  match b with
  | ⟨0, _⟩ => rfl
  | ⟨1, _⟩ => rfl

theorem colOf {α : Type} (v : S1024.Idx → α) (r : Fin 1024) (i : Fin 1) : shapeCast S1024x1 v shapeCasts_S1024_S1024x1 (ix2 r i) = v (ix1 r) := by
  refine shapeCast_apply _ _ _ _ ?_
  rw [Shape.rowMajor_val_one, Shape.rowMajor_val_two]
  show r.val = r.val * 1 + i.val
  omega

theorem rowOf {α : Type} (v : S4096.Idx → α) (i : Fin 1) (j : Fin 4096) : shapeCast S1x4096 v shapeCasts_S4096_S1x4096 (ix2 i j) = v (ix1 j) := by
  refine shapeCast_apply _ _ _ _ ?_
  rw [Shape.rowMajor_val_one, Shape.rowMajor_val_two]
  show j.val = i.val * 4096 + j.val
  omega

theorem spreadCol {α : Type} (v : S1024x1.Idx → α) (r : Fin 1024) (j : Fin 4096) : broadcastTo S1024x4096 v broadcasts_S1024x1_S1024x4096 (ix2 r j) = v (ix2 r 0) :=
  broadcastTo_apply _ _ _ _ fun a => match a with | ⟨0, _⟩ => rfl | ⟨1, _⟩ => rfl

theorem spreadRow {α : Type} (v : S1x4096.Idx → α) (r : Fin 1024) (j : Fin 4096) : broadcastTo S1024x4096 v broadcasts_S1x4096_S1024x4096 (ix2 r j) = v (ix2 0 j) :=
  broadcastTo_apply _ _ _ _ fun a => match a with | ⟨0, _⟩ => rfl | ⟨1, _⟩ => rfl

theorem product (r : Fin 1024) (j : Fin 4096) :
    matmul (F := Ideal) dot_S1024x3_S3x4096_S1024x4096_1_0_0_1_n_n none X0 X1 (constant S1024x4096 .f32 0x00000000#32) (ix2 r j)
      = ∑ k, pt X0 r k * cs X1 j k := by
  refine (Ideal.matmul_constant_zero_apply _ _ _ _ _).trans ?_
  rw [← Equiv.sum_comp (contrEquiv1 dot_S1024x3_S3x4096_S1024x4096_1_0_0_1_n_n 3 rfl rfl).symm]
  refine Finset.sum_congr rfl fun k _ => congrArg₂ (· * ·) (congrArg X0 ?_) (congrArg X1 ?_)
  · funext b
    match b with
    | ⟨0, _⟩ => rfl
    | ⟨1, _⟩ => rfl
  · funext b
    match b with
    | ⟨0, _⟩ => rfl
    | ⟨1, _⟩ => rfl

theorem ite_eq {p : Prop} {_ : Decidable p} {a b c d : EReal} (h : a = c) (h' : b = d) : (if p then a else b) = if p then c else d := by
  rw [h, h']

open Classical in
theorem mask_eq (r : Fin 1024) (j : Fin 4096) (u v : EReal) :
    Scalar.select (k1_pay2 (F := Ideal) X0 X1 (ix2 r j)) u v = if near (pt X0 r) (cs X1 j) then u else v := by
  have e : k1_pay2 (F := Ideal) X0 X1 (ix2 r j) = Ideal.cmp .olt (dist2 (pt X0 r) (cs X1 j)) radius2 := by
    unfold k1_pay2
    rw [shapeCast_self]
    refine congrArg₂ (Ideal.cmp .olt) (congrArg₂ (· - ·) (congrArg₂ (· + ·) ?_ ?_) (congrArg₂ (· * ·) rfl (product X0 X1 r j))) rfl
    · exact (spreadCol _ r j).trans ((colOf _ r 0).trans (squares0 _ r))
    · exact (spreadRow _ r j).trans ((rowOf _ 0 j).trans (squares1 _ j))
  rw [e]
  unfold near Scalar.select Ideal.cmp
  by_cases h : dist2 (pt X0 r) (cs X1 j) < radius2 <;> simp [h]

theorem hits_eq' (r : Fin 1024) (i : Fin 1) : k1_pay3 (F := Ideal) X0 X1 (ix2 r i) = hits (pt X0 r) (cs X1) := by
  unfold k1_pay3
  refine (colOf _ r i).trans ((total _ r).trans (Finset.sum_congr rfl fun j _ => ?_))
  refine (mask_eq X0 X1 r j _ _).trans ?_
  unfold ind
  exact ite_eq Ideal.ofBits_one_f32 Ideal.ofBits_zero_f32

open Classical in
theorem has_eq (r : Fin 1024) (i : Fin 1) (u v : EReal) :
    Scalar.select (k1_pay4 (F := Ideal) X0 X1 (ix2 r i)) u v = if 0 < hits (pt X0 r) (cs X1) then u else v := by
  have e : k1_pay4 (F := Ideal) X0 X1 (ix2 r i) = Ideal.cmp .ogt (hits (pt X0 r) (cs X1)) 0 := by
    unfold k1_pay4
    exact congrArg₂ (Ideal.cmp .ogt) (hits_eq' X0 X1 r i) Ideal.ofBits_zero_f32
  rw [e]
  unfold Scalar.select Ideal.cmp
  by_cases h : 0 < hits (pt X0 r) (cs X1) <;> simp [h]

theorem denom_eq (r : Fin 1024) (i : Fin 1) : k1_pay6 (F := Ideal) X0 X1 (ix2 r i) = denom (pt X0 r) (cs X1) := by
  unfold k1_pay6
  refine (has_eq X0 X1 r i _ _).trans ?_
  unfold denom
  refine ite_eq ?_ rfl
  exact congrArg₂ (· + ·) (hits_eq' X0 X1 r i) (congrArg₂ (· * ·) (congrArg₂ (· - ·) rfl (hits_eq' X0 X1 r i)) rfl)

/-- An entry of the block of weights. -/
theorem groupOut_apply (r : Fin 1024) (j : Fin 4096) : Group.groupOut X0 X1 (ix2 r j) = weight (pt X0 r) (cs X1) j := by
  unfold Group.groupOut k1_pay1
  refine (mask_eq X0 X1 r j _ _).trans ?_
  unfold weight
  refine ite_eq ?_ ?_
  · unfold k1_pay8
    refine (spreadCol _ r j).trans ?_
    rw [shapeCast_self]
    exact congrArg₂ Ideal.div Ideal.ofBits_one_f32 (denom_eq X0 X1 r 0)
  · refine (spreadCol _ r j).trans ?_
    rw [shapeCast_self]
    unfold k1_pay7
    refine congrArg₂ Ideal.div ((has_eq X0 X1 r 0 _ _).trans ?_) (denom_eq X0 X1 r 0)
    exact ite_eq rfl Ideal.ofBits_one_f32

/-! ## The array of weights -/

variable (m : (ℓ : Loc nD τ sig) → Buf (Elt Ideal) ℓ) (c : Dev nD)

/-- The centroids as rows. -/
def B (x : Pts) : Fin 4096 → Fin 3 → EReal := fun j => x (st x j.val).2

/-- The weights: row by row those of each point. -/
def W (x : Pts) : FVec Ideal S16384x4096 .f32 := fun i => weight (x (i 0)) (B x) (i 1)

theorem VB_arg0 : VB m c main_arg0 = m ((c : Thread nD τ).loc main_arg0) :=
  (V3_of m _ c main_arg0 (by decide)).trans ((V2_of m _ c main_arg0 (by decide)).trans (V1_of m c main_arg0 (by decide)))

theorem V3_v9 (o : Outs (F := Ideal)) : V3 m o c main_v9 = transpose S3x4096 [1, 0] (o 2 main_v8 c : S4096x3.Idx → EReal) transposes_S4096x3_S3x4096_1_0 := by
  have h : V3 m o c main_v9 = transpose S3x4096 [1, 0] (V2 m o c main_v8 : S4096x3.Idx → EReal) transposes_S4096x3_S3x4096_1_0 := rfl
  rw [h]
  exact congrArg (fun v : S4096x3.Idx → EReal => transpose S3x4096 [1, 0] v transposes_S4096x3_S3x4096_1_0)
    (Function.update_self (Proc.devRef .tc main_v8) (o 2 main_v8 c) (V1 m c))

theorem VB_v9 (j : Fin 4096) (k : Fin 3) : (VB m c main_v9 : S3x4096.Idx → EReal) (ix2 k j) = B (pts m c) j k := by
  refine (congrFun (V3_v9 m c _) (ix2 k j)).trans ?_
  rw [mkOuts_v8, cents_eq]
  exact transpose_apply _ _ _ _ (ix2 j k) fun a => match a with | ⟨0, _⟩ => rfl | ⟨1, _⟩ => rfl

theorem row_lt (t : Fin cfg1.N) (r : Fin 1024) : t.val * 1024 + r.val < 16384 := by
  have ht : t.val < 16 := t.isLt
  omega

theorem read1_0 (V : Reg.Vals Ideal) (t : Fin cfg1.N) (r : Fin 1024) (k : Fin 3) :
    ((cfg1.win 0).blk t).view.read (Elt Ideal) (V c main_arg0) (ix2 r k) = V c main_arg0 (ix2 ⟨t.val * 1024 + r.val, row_lt t r⟩ k) := by
  blk_simp
  refine congrArg (V c main_arg0) ?_
  blk_ext [(by decide +kernel : ∀ t : Fin grid1.N, win1_0.index t = ![t.val, 0])]

theorem read1_1 (V : Reg.Vals Ideal) (t : Fin cfg1.N) (i : S3x4096.Idx) :
    ((cfg1.win 1).blk t).view.read (Elt Ideal) (V c main_v9) i = V c main_v9 i := by
  blk_simp
  refine congrArg (V c main_v9) ?_
  blk_ext [(by decide +kernel : ∀ t : Fin grid1.N, win1_1.index t = ![0, 0])]

/-- Block `t` of the weights, from any contents at the kernel's entry. -/
theorem after1_of (V : Reg.Vals Ideal) (t : Fin cfg1.N) (r : Fin 1024) (j : Fin 4096) :
    (Reg.dat1 V c).after 2 t (ix2 r j)
      = weight (fun k => V c main_arg0 (ix2 ⟨t.val * 1024 + r.val, row_lt t r⟩ k)) (fun j k => V c main_v9 (ix2 k j)) j := by
  dsimp only [Reg.dat1]
  refine (groupOut_apply _ _ r j).trans ?_
  refine congrArg₂ (fun a b => weight a b j) (funext fun k => ?_) (funext fun j => funext fun k => ?_)
  · exact read1_0 c V t r k
  · exact read1_1 c V t (ix2 k j)

/-- The second result. -/
theorem weights_eq : weights m c = W (pts m c) := by
  unfold weights
  refine (Reg.dat1 (VB m) c).arrAt_eq_of_covers 2 _ (by decide +kernel) fun t hf y => ?_
  blk_simp
  obtain ⟨r, j, rfl⟩ : ∃ (r : Fin 1024) (j : Fin 4096), y = (ix2 r j : S1024x4096.Idx) := ⟨y 0, y 1, eq_ix2 (n0 := 1024) (n1 := 4096) y⟩
  refine (after1_of c (VB m) t r j).trans ?_
  have e : (win1_2.blk t).view.emb (ix2 r j : S1024x4096.Idx) = (ix2 ⟨t.val * 1024 + r.val, row_lt t r⟩ j : S16384x4096.Idx) := by
    blk_ext [(by decide +kernel : ∀ t : Fin grid1.N, win1_2.index t = ![t.val, 0])]
  rw [e]
  refine congrArg₂ (fun a b => weight a b j) (funext fun k => ?_) (funext fun j => funext fun k => VB_v9 m c j k)
  rw [VB_arg0]
  rfl

end Cert.KernelIdeal.Weights

end
-- ==== Proof.RefRun.lean ====
/-
  The run of the reference: `main` is a stretch of host operations, one counted loop of 4095 trips and three
  stretches after it. `run_fold`: every execution terminates with every buffer at the fold of the operations.
  Then one trip's values from any contents, the step (`STEP`), and `run`: each result is read off `STEP`
  iterated on the contents at the loop's entry.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## `main` as a chain of items -/

/-- 11 host operations of @main, in order. -/
abbrev hostOps0 : List (HloOp τ sig (Elt F)) :=
  [ StableHlo.nullary main_c (constantI S_ 32 0#32),
    StableHlo.unary main_c main_v0 (broadcastInDim S4096 ![] bcast_S_S4096 : (⟨S_, .i32⟩ : BufTy).Contents (Elt F) → (⟨S4096, .i32⟩ : BufTy).Contents (Elt F)),
    StableHlo.nullary main_cst (constant S_ .f32 0x7F800000#32),
    StableHlo.unary main_cst main_v1 (broadcastInDim S16384 ![] bcast_S_S16384 : (⟨S_, .f32⟩ : BufTy).Contents (Elt F) → (⟨S16384, .f32⟩ : BufTy).Contents (Elt F)),
    StableHlo.nullary main_c_0 (constantI S_ 32 1#32),
    StableHlo.nullary main_c_1 (constantI S_ 32 0#32),
    StableHlo.unary main_arg0 main_v2_0 id,
    StableHlo.unary main_c_1 main_v2_1 id,
    StableHlo.unary main_c_0 main_v2_2 id,
    StableHlo.unary main_v0 main_v2_3 id,
    StableHlo.unary main_v1 main_v2_4 id ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub ..⟩
/-- 31 host operations of @main, in order. -/
abbrev hostOps0_1 : List (HloOp τ sig (Elt F)) :=
  [ StableHlo.nullary main_c_2 (constantI S_ 32 0#32),
    StableHlo.unary main_c_2 main_v3 (broadcastInDim S4096 ![] bcast_S_S4096 : (⟨S_, .i32⟩ : BufTy).Contents (Elt F) → (⟨S4096, .i32⟩ : BufTy).Contents (Elt F)),
    StableHlo.binary main_v2_3 main_v3 main_v4 (cmpi .slt : (⟨S4096, .i32⟩ : BufTy).Contents (Elt F) → (⟨S4096, .i32⟩ : BufTy).Contents (Elt F) → (⟨S4096, .i1⟩ : BufTy).Contents (Elt F)),
    StableHlo.nullary main_c_3 (constantI S_ 32 16384#32),
    StableHlo.unary main_c_3 main_v5 (broadcastInDim S4096 ![] bcast_S_S4096 : (⟨S_, .i32⟩ : BufTy).Contents (Elt F) → (⟨S4096, .i32⟩ : BufTy).Contents (Elt F)),
    StableHlo.binary main_v2_3 main_v5 main_v6 (addi : (⟨S4096, .i32⟩ : BufTy).Contents (Elt F) → (⟨S4096, .i32⟩ : BufTy).Contents (Elt F) → (⟨S4096, .i32⟩ : BufTy).Contents (Elt F)),
    StableHlo.ternary main_v4 main_v6 main_v2_3 main_v7 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v7 main_v8 (broadcastInDim S4096x1 ![0] bcast_S4096_S4096x1_0 : (⟨S4096, .i32⟩ : BufTy).Contents (Elt F) → (⟨S4096x1, .i32⟩ : BufTy).Contents (Elt F)),
    StableHlo.binary main_arg0 main_v8 main_v9 ((fun x i => Host.gather gather_S16384x3_S4096x1_S4096x3_1_0_n_n_0_1_13 x i) : (⟨S16384x3, .f32⟩ : BufTy).Contents (Elt F) → (⟨S4096x1, .i32⟩ : BufTy).Contents (Elt F) → (⟨S4096x3, .f32⟩ : BufTy).Contents (Elt F)),
    StableHlo.binary main_arg0 main_arg0 main_v10 (mulf : (⟨S16384x3, .f32⟩ : BufTy).Contents (Elt F) → (⟨S16384x3, .f32⟩ : BufTy).Contents (Elt F) → (⟨S16384x3, .f32⟩ : BufTy).Contents (Elt F)),
    StableHlo.nullary main_cst_4 (constant S_ .f32 0x00000000#32),
    StableHlo.binary main_v10 main_cst_4 main_v11 ((fun x v => Host.reduceAdd x v reducesTo_S16384x3_S16384_d1 h_S_) : (⟨S16384x3, .f32⟩ : BufTy).Contents (Elt F) → (⟨S_, .f32⟩ : BufTy).Contents (Elt F) → (⟨S16384, .f32⟩ : BufTy).Contents (Elt F)),
    StableHlo.unary main_v11 main_v12 (broadcastInDim S16384x1 ![0] bcast_S16384_S16384x1_0 : (⟨S16384, .f32⟩ : BufTy).Contents (Elt F) → (⟨S16384x1, .f32⟩ : BufTy).Contents (Elt F)),
    StableHlo.binary main_v9 main_v9 main_v13 (mulf : (⟨S4096x3, .f32⟩ : BufTy).Contents (Elt F) → (⟨S4096x3, .f32⟩ : BufTy).Contents (Elt F) → (⟨S4096x3, .f32⟩ : BufTy).Contents (Elt F)),
    StableHlo.nullary main_cst_5 (constant S_ .f32 0x00000000#32),
    StableHlo.binary main_v13 main_cst_5 main_v14 ((fun x v => Host.reduceAdd x v reducesTo_S4096x3_S4096_d1 h_S_) : (⟨S4096x3, .f32⟩ : BufTy).Contents (Elt F) → (⟨S_, .f32⟩ : BufTy).Contents (Elt F) → (⟨S4096, .f32⟩ : BufTy).Contents (Elt F)),
    StableHlo.unary main_v14 main_v15 (broadcastInDim S1x4096 ![1] bcast_S4096_S1x4096_1 : (⟨S4096, .f32⟩ : BufTy).Contents (Elt F) → (⟨S1x4096, .f32⟩ : BufTy).Contents (Elt F)),
    StableHlo.unary main_v12 main_v16 (broadcastInDim S16384x4096 ![0, 1] bcast_S16384x1_S16384x4096_0_1 : (⟨S16384x1, .f32⟩ : BufTy).Contents (Elt F) → (⟨S16384x4096, .f32⟩ : BufTy).Contents (Elt F)),
    StableHlo.unary main_v15 main_v17 (broadcastInDim S16384x4096 ![0, 1] bcast_S1x4096_S16384x4096_0_1 : (⟨S1x4096, .f32⟩ : BufTy).Contents (Elt F) → (⟨S16384x4096, .f32⟩ : BufTy).Contents (Elt F)),
    StableHlo.binary main_v16 main_v17 main_v18 (addf : (⟨S16384x4096, .f32⟩ : BufTy).Contents (Elt F) → (⟨S16384x4096, .f32⟩ : BufTy).Contents (Elt F) → (⟨S16384x4096, .f32⟩ : BufTy).Contents (Elt F)),
    StableHlo.unary main_v9 main_v19 ((transpose S3x4096 [1, 0] · transposes_S4096x3_S3x4096_1_0) : (⟨S4096x3, .f32⟩ : BufTy).Contents (Elt F) → (⟨S3x4096, .f32⟩ : BufTy).Contents (Elt F)),
    StableHlo.binary main_arg0 main_v19 main_v20 ((fun l r => Host.dotGeneral dot_S16384x3_S3x4096_S16384x4096_1_0_0_1_n_n none l r) : (⟨S16384x3, .f32⟩ : BufTy).Contents (Elt F) → (⟨S3x4096, .f32⟩ : BufTy).Contents (Elt F) → (⟨S16384x4096, .f32⟩ : BufTy).Contents (Elt F)),
    StableHlo.nullary main_cst_6 (constant S_ .f32 0x40000000#32),
    StableHlo.unary main_cst_6 main_v21 (broadcastInDim S16384x4096 ![] bcast_S_S16384x4096 : (⟨S_, .f32⟩ : BufTy).Contents (Elt F) → (⟨S16384x4096, .f32⟩ : BufTy).Contents (Elt F)),
    StableHlo.binary main_v21 main_v20 main_v22 (mulf : (⟨S16384x4096, .f32⟩ : BufTy).Contents (Elt F) → (⟨S16384x4096, .f32⟩ : BufTy).Contents (Elt F) → (⟨S16384x4096, .f32⟩ : BufTy).Contents (Elt F)),
    StableHlo.binary main_v18 main_v22 main_v23 (subf : (⟨S16384x4096, .f32⟩ : BufTy).Contents (Elt F) → (⟨S16384x4096, .f32⟩ : BufTy).Contents (Elt F) → (⟨S16384x4096, .f32⟩ : BufTy).Contents (Elt F)),
    StableHlo.nullary main_cst_7 (constant S_ .f32 0x3D23D70A#32),
    StableHlo.unary main_cst_7 main_v24 (broadcastInDim S16384x4096 ![] bcast_S_S16384x4096 : (⟨S_, .f32⟩ : BufTy).Contents (Elt F) → (⟨S16384x4096, .f32⟩ : BufTy).Contents (Elt F)),
    StableHlo.binary main_v23 main_v24 main_v25 (cmpf .olt : (⟨S16384x4096, .f32⟩ : BufTy).Contents (Elt F) → (⟨S16384x4096, .f32⟩ : BufTy).Contents (Elt F) → (⟨S16384x4096, .i1⟩ : BufTy).Contents (Elt F)),
    StableHlo.nullary main_cst_8 (constant S_ .f32 0x3F800000#32),
    StableHlo.nullary main_cst_9 (constant S_ .f32 0x00000000#32) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.nullary_bufs_sub ..⟩
/-- 3 host operations of @_where (main_call1), in order. -/
abbrev hostOps0_2 : List (HloOp τ sig (Elt F)) :=
  [ StableHlo.TRef.unary (.of main_cst_8 : StableHlo.TRef sig ⟨S_, .f32⟩) (.of main_call1_v0 : StableHlo.TRef sig ⟨S16384x4096, .f32⟩) (broadcastInDim S16384x4096 ![] bcast_S_S16384x4096),
    StableHlo.TRef.unary (.of main_cst_9 : StableHlo.TRef sig ⟨S_, .f32⟩) (.of main_call1_v1 : StableHlo.TRef sig ⟨S16384x4096, .f32⟩) (broadcastInDim S16384x4096 ![] bcast_S_S16384x4096),
    StableHlo.TRef.ternary (.of main_v25 : StableHlo.TRef sig ⟨S16384x4096, .i1⟩) (.of main_call1_v0 : StableHlo.TRef sig ⟨S16384x4096, .f32⟩) (.of main_call1_v1 : StableHlo.TRef sig ⟨S16384x4096, .f32⟩) (.of main_v26 : StableHlo.TRef sig ⟨S16384x4096, .f32⟩) select ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.unary_bufs_sub .., StableHlo.unary_bufs_sub .., StableHlo.ternary_bufs_sub ..⟩
/-- 15 host operations of @main, in order. -/
abbrev hostOps0_3 : List (HloOp τ sig (Elt F)) :=
  [ StableHlo.unary main_v26 main_v27 (id : (⟨S16384x4096, .f32⟩ : BufTy).Contents (Elt F) → (⟨S16384x4096, .f32⟩ : BufTy).Contents (Elt F)),
    StableHlo.nullary main_cst_10 (constant S_ .f32 0xFF800000#32),
    StableHlo.binary main_v27 main_cst_10 main_v28 ((fun x v => Host.reduce FloatOps.maximumf x v reducesTo_S16384x4096_S16384_d1 h_S_) : (⟨S16384x4096, .f32⟩ : BufTy).Contents (Elt F) → (⟨S_, .f32⟩ : BufTy).Contents (Elt F) → (⟨S16384, .f32⟩ : BufTy).Contents (Elt F)),
    StableHlo.nullary main_cst_11 (constant S_ .f32 0xFF800000#32),
    StableHlo.unary main_cst_11 main_v29 (broadcastInDim S16384 ![] bcast_S_S16384 : (⟨S_, .f32⟩ : BufTy).Contents (Elt F) → (⟨S16384, .f32⟩ : BufTy).Contents (Elt F)),
    StableHlo.binary main_v29 main_v28 main_v30 (maximumf : (⟨S16384, .f32⟩ : BufTy).Contents (Elt F) → (⟨S16384, .f32⟩ : BufTy).Contents (Elt F) → (⟨S16384, .f32⟩ : BufTy).Contents (Elt F)),
    StableHlo.unary main_v30 main_v31 (broadcastInDim S16384x1 ![0] bcast_S16384_S16384x1_0 : (⟨S16384, .f32⟩ : BufTy).Contents (Elt F) → (⟨S16384x1, .f32⟩ : BufTy).Contents (Elt F)),
    StableHlo.unary main_v31 main_v32 (broadcastInDim S16384x4096 ![0, 1] bcast_S16384x1_S16384x4096_0_1 : (⟨S16384x1, .f32⟩ : BufTy).Contents (Elt F) → (⟨S16384x4096, .f32⟩ : BufTy).Contents (Elt F)),
    StableHlo.binary main_v27 main_v32 main_v33 (subf : (⟨S16384x4096, .f32⟩ : BufTy).Contents (Elt F) → (⟨S16384x4096, .f32⟩ : BufTy).Contents (Elt F) → (⟨S16384x4096, .f32⟩ : BufTy).Contents (Elt F)),
    StableHlo.unary main_v33 main_v34 (Host.exp : (⟨S16384x4096, .f32⟩ : BufTy).Contents (Elt F) → (⟨S16384x4096, .f32⟩ : BufTy).Contents (Elt F)),
    StableHlo.nullary main_cst_12 (constant S_ .f32 0x00000000#32),
    StableHlo.binary main_v34 main_cst_12 main_v35 ((fun x v => Host.reduceAdd x v reducesTo_S16384x4096_S16384_d1 h_S_) : (⟨S16384x4096, .f32⟩ : BufTy).Contents (Elt F) → (⟨S_, .f32⟩ : BufTy).Contents (Elt F) → (⟨S16384, .f32⟩ : BufTy).Contents (Elt F)),
    StableHlo.unary main_v35 main_v36 (broadcastInDim S16384x1 ![0] bcast_S16384_S16384x1_0 : (⟨S16384, .f32⟩ : BufTy).Contents (Elt F) → (⟨S16384x1, .f32⟩ : BufTy).Contents (Elt F)),
    StableHlo.unary main_v36 main_v37 (broadcastInDim S16384x4096 ![0, 1] bcast_S16384x1_S16384x4096_0_1 : (⟨S16384x1, .f32⟩ : BufTy).Contents (Elt F) → (⟨S16384x4096, .f32⟩ : BufTy).Contents (Elt F)),
    StableHlo.binary main_v34 main_v37 main_v38 (Host.divf : (⟨S16384x4096, .f32⟩ : BufTy).Contents (Elt F) → (⟨S16384x4096, .f32⟩ : BufTy).Contents (Elt F) → (⟨S16384x4096, .f32⟩ : BufTy).Contents (Elt F)) ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩
/-- `main` is the chain of its items, in order. -/
theorem main_chain (c : Dev nD) : main (F := F) c = (Pipeline.chain
  [ StableHlo.seq hostOps0,
    HostLoop.enter 0,
    StableHlo.seq hostOps0_1,
    StableHlo.seq hostOps0_2,
    StableHlo.seq hostOps0_3 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons]
  chain_rfl

/-- 34 host operations of host loop 0's body region, in order. -/
abbrev while0Ops0 : List (HloOp τ sig (Elt F)) :=
  ( StableHlo.nullary main_while0b_c_17 (constantI S_ 32 1#32)
  :: StableHlo.binary main_v2_2 main_while0b_c_17 main_while0b_v39 (addi : (⟨S_, .i32⟩ : BufTy).Contents (Elt F) → (⟨S_, .i32⟩ : BufTy).Contents (Elt F) → (⟨S_, .i32⟩ : BufTy).Contents (Elt F))
  :: StableHlo.nullary main_while0b_c_18 (constantI S_ 32 1#32)
  :: StableHlo.binary main_v2_2 main_while0b_c_18 main_while0b_v40 (subi : (⟨S_, .i32⟩ : BufTy).Contents (Elt F) → (⟨S_, .i32⟩ : BufTy).Contents (Elt F) → (⟨S_, .i32⟩ : BufTy).Contents (Elt F))
  :: StableHlo.nullary main_while0b_c_19 (constantI S_ 32 0#32)
  :: StableHlo.binary main_while0b_v40 main_while0b_c_19 main_while0b_v41 (cmpi .slt : (⟨S_, .i32⟩ : BufTy).Contents (Elt F) → (⟨S_, .i32⟩ : BufTy).Contents (Elt F) → (⟨S_, .i1⟩ : BufTy).Contents (Elt F))
  :: StableHlo.unary main_while0b_v40 main_while0b_v42 (id : (⟨S_, .i32⟩ : BufTy).Contents (Elt F) → (⟨S_, .i32⟩ : BufTy).Contents (Elt F))
  :: StableHlo.nullary main_while0b_c_20 (constantI S_ 32 4096#32)
  :: StableHlo.binary main_while0b_v42 main_while0b_c_20 main_while0b_v43 (addi : (⟨S_, .i32⟩ : BufTy).Contents (Elt F) → (⟨S_, .i32⟩ : BufTy).Contents (Elt F) → (⟨S_, .i32⟩ : BufTy).Contents (Elt F))
  :: StableHlo.ternary main_while0b_v41 main_while0b_v43 main_while0b_v40 main_while0b_v44 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v2_3 ![main_while0b_v44] ⟨S_, .i32⟩ main_while0b_v45 ((fun x i => Host.dynamicSlice S1 x (fun k => (i k (Shape.Idx.first h_S_)).toInt) sliceFits_S4096_S1) : (⟨S4096, .i32⟩ : BufTy).Contents (Elt F) → (Fin 1 → (⟨S_, .i32⟩ : BufTy).Contents (Elt F)) → (⟨S1, .i32⟩ : BufTy).Contents (Elt F))
  :: StableHlo.reshape main_while0b_v45 main_while0b_v46 (rfl : (.i32 : EltTy) = .i32) shapeCasts_S1_S_
  :: StableHlo.nullary main_while0b_c_21 (constantI S_ 32 0#32)
  :: StableHlo.binary main_while0b_v46 main_while0b_c_21 main_while0b_v47 (cmpi .slt : (⟨S_, .i32⟩ : BufTy).Contents (Elt F) → (⟨S_, .i32⟩ : BufTy).Contents (Elt F) → (⟨S_, .i1⟩ : BufTy).Contents (Elt F))
  :: StableHlo.nullary main_while0b_c_22 (constantI S_ 32 16384#32)
  :: StableHlo.binary main_while0b_v46 main_while0b_c_22 main_while0b_v48 (addi : (⟨S_, .i32⟩ : BufTy).Contents (Elt F) → (⟨S_, .i32⟩ : BufTy).Contents (Elt F) → (⟨S_, .i32⟩ : BufTy).Contents (Elt F))
  :: StableHlo.ternary main_while0b_v47 main_while0b_v48 main_while0b_v46 main_while0b_v49 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_23 (constantI S_ 32 0#32)
  :: StableHlo.nullary main_while0b_c_24 (constantI S_ 32 0#32)
  :: StableHlo.binary main_while0b_c_23 main_while0b_c_24 main_while0b_v50 (cmpi .slt : (⟨S_, .i32⟩ : BufTy).Contents (Elt F) → (⟨S_, .i32⟩ : BufTy).Contents (Elt F) → (⟨S_, .i1⟩ : BufTy).Contents (Elt F))
  :: StableHlo.nullary main_while0b_c_25 (constantI S_ 32 0#32)
  :: StableHlo.nullary main_while0b_c_26 (constantI S_ 32 3#32)
  :: StableHlo.binary main_while0b_c_25 main_while0b_c_26 main_while0b_v51 (addi : (⟨S_, .i32⟩ : BufTy).Contents (Elt F) → (⟨S_, .i32⟩ : BufTy).Contents (Elt F) → (⟨S_, .i32⟩ : BufTy).Contents (Elt F))
  :: StableHlo.nullary main_while0b_c_27 (constantI S_ 32 0#32)
  :: StableHlo.ternary main_while0b_v50 main_while0b_v51 main_while0b_c_27 main_while0b_v52 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v2_0 ![main_while0b_v49, main_while0b_v52] ⟨S_, .i32⟩ main_while0b_v53 ((fun x i => Host.dynamicSlice S1x3 x (fun k => (i k (Shape.Idx.first h_S_)).toInt) sliceFits_S16384x3_S1x3) : (⟨S16384x3, .f32⟩ : BufTy).Contents (Elt F) → (Fin 2 → (⟨S_, .i32⟩ : BufTy).Contents (Elt F)) → (⟨S1x3, .f32⟩ : BufTy).Contents (Elt F))
  :: StableHlo.reshape main_while0b_v53 main_while0b_v54 (rfl : (.f32 : EltTy) = .f32) shapeCasts_S1x3_S3
  :: StableHlo.unary main_while0b_v54 main_while0b_v55 (broadcastInDim S1x3 ![1] bcast_S3_S1x3_1 : (⟨S3, .f32⟩ : BufTy).Contents (Elt F) → (⟨S1x3, .f32⟩ : BufTy).Contents (Elt F))
  :: StableHlo.unary main_while0b_v55 main_while0b_v56 (broadcastInDim S16384x3 ![0, 1] bcast_S1x3_S16384x3_0_1 : (⟨S1x3, .f32⟩ : BufTy).Contents (Elt F) → (⟨S16384x3, .f32⟩ : BufTy).Contents (Elt F))
  :: StableHlo.binary main_v2_0 main_while0b_v56 main_while0b_v57 (subf : (⟨S16384x3, .f32⟩ : BufTy).Contents (Elt F) → (⟨S16384x3, .f32⟩ : BufTy).Contents (Elt F) → (⟨S16384x3, .f32⟩ : BufTy).Contents (Elt F))
  :: StableHlo.binary main_while0b_v57 main_while0b_v57 main_while0b_v58 (mulf : (⟨S16384x3, .f32⟩ : BufTy).Contents (Elt F) → (⟨S16384x3, .f32⟩ : BufTy).Contents (Elt F) → (⟨S16384x3, .f32⟩ : BufTy).Contents (Elt F))
  :: StableHlo.nullary main_while0b_cst_28 (constant S_ .f32 0x00000000#32)
  :: StableHlo.binary main_while0b_v58 main_while0b_cst_28 main_while0b_v59 ((fun x v => Host.reduceAdd x v reducesTo_S16384x3_S16384_d1 h_S_) : (⟨S16384x3, .f32⟩ : BufTy).Contents (Elt F) → (⟨S_, .f32⟩ : BufTy).Contents (Elt F) → (⟨S16384, .f32⟩ : BufTy).Contents (Elt F))
  :: StableHlo.binary main_v2_4 main_while0b_v59 main_while0b_v60 (minimumf : (⟨S16384, .f32⟩ : BufTy).Contents (Elt F) → (⟨S16384, .f32⟩ : BufTy).Contents (Elt F) → (⟨S16384, .f32⟩ : BufTy).Contents (Elt F))
  :: [] )
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub ..⟩
/-- 5 host operations of @argmax (main_while0b_call0), in order. -/
abbrev while0Ops0_1 : List (HloOp τ sig (Elt F)) :=
  [ StableHlo.TRef.nullary (.of main_while0b_call0_v0 : StableHlo.TRef sig ⟨S16384, .i32⟩) (iotaInDim S16384 32 0),
    StableHlo.TRef.nullary (.of main_while0b_call0_cst : StableHlo.TRef sig ⟨S_, .f32⟩) (constant S_ .f32 0xFF800000#32),
    StableHlo.TRef.nullary (.of main_while0b_call0_c : StableHlo.TRef sig ⟨S_, .i32⟩) (constantI S_ 32 0#32),
    StableHlo.TRef.quaternary (.of main_while0b_v60 : StableHlo.TRef sig ⟨S16384, .f32⟩) (.of main_while0b_call0_v0 : StableHlo.TRef sig ⟨S16384, .i32⟩) (.of main_while0b_call0_cst : StableHlo.TRef sig ⟨S_, .f32⟩) (.of main_while0b_call0_c : StableHlo.TRef sig ⟨S_, .i32⟩) (.of main_while0b_call0_v1_0 : StableHlo.TRef sig ⟨S_, .f32⟩) (fun x y u v j => (Host.argReduce reducer_argmax_f32_i32 x y u v reducesTo_S16384_S_d0 h_S_ j).1),
    StableHlo.TRef.quaternary (.of main_while0b_v60 : StableHlo.TRef sig ⟨S16384, .f32⟩) (.of main_while0b_call0_v0 : StableHlo.TRef sig ⟨S16384, .i32⟩) (.of main_while0b_call0_cst : StableHlo.TRef sig ⟨S_, .f32⟩) (.of main_while0b_call0_c : StableHlo.TRef sig ⟨S_, .i32⟩) (.of main_while0b_v61 : StableHlo.TRef sig ⟨S_, .i32⟩) (fun x y u v j => (Host.argReduce reducer_argmax_f32_i32 x y u v reducesTo_S16384_S_d0 h_S_ j).2) ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 14 host operations of host loop 0's body region, in order. -/
abbrev while0Ops0_2 : List (HloOp τ sig (Elt F)) :=
  [ StableHlo.nullary main_while0b_c_29 (constantI S_ 32 0#32),
    StableHlo.binary main_v2_2 main_while0b_c_29 main_while0b_v62 (cmpi .slt : (⟨S_, .i32⟩ : BufTy).Contents (Elt F) → (⟨S_, .i32⟩ : BufTy).Contents (Elt F) → (⟨S_, .i1⟩ : BufTy).Contents (Elt F)),
    StableHlo.nullary main_while0b_c_30 (constantI S_ 32 4096#32),
    StableHlo.binary main_v2_2 main_while0b_c_30 main_while0b_v63 (addi : (⟨S_, .i32⟩ : BufTy).Contents (Elt F) → (⟨S_, .i32⟩ : BufTy).Contents (Elt F) → (⟨S_, .i32⟩ : BufTy).Contents (Elt F)),
    StableHlo.ternary main_while0b_v62 main_while0b_v63 main_v2_2 main_while0b_v64 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v64 main_while0b_v65 (id : (⟨S_, .i32⟩ : BufTy).Contents (Elt F) → (⟨S_, .i32⟩ : BufTy).Contents (Elt F)),
    StableHlo.unary main_while0b_v65 main_while0b_v66 (broadcastInDim S1 ![] bcast_S_S1 : (⟨S_, .i32⟩ : BufTy).Contents (Elt F) → (⟨S1, .i32⟩ : BufTy).Contents (Elt F)),
    StableHlo.ternary main_v2_3 main_while0b_v66 main_while0b_v61 main_while0b_v67 ((fun x i u => Host.scatter scatter_S4096_S1_S__n_0_0_0 (fun _ b => b) x i u) : (⟨S4096, .i32⟩ : BufTy).Contents (Elt F) → (⟨S1, .i32⟩ : BufTy).Contents (Elt F) → (⟨S_, .i32⟩ : BufTy).Contents (Elt F) → (⟨S4096, .i32⟩ : BufTy).Contents (Elt F)),
    StableHlo.nullary main_while0b_c_31 (constantI S_ 32 1#32),
    StableHlo.binary main_v2_1 main_while0b_c_31 main_while0b_v68 (addi : (⟨S_, .i32⟩ : BufTy).Contents (Elt F) → (⟨S_, .i32⟩ : BufTy).Contents (Elt F) → (⟨S_, .i32⟩ : BufTy).Contents (Elt F)),
    StableHlo.unary main_while0b_v68 main_v2_1 id,
    StableHlo.unary main_while0b_v39 main_v2_2 id,
    StableHlo.unary main_while0b_v67 main_v2_3 id,
    StableHlo.unary main_while0b_v60 main_v2_4 id ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub .., StableHlo.nullary_bufs_sub .., StableHlo.binary_bufs_sub .., StableHlo.unary_bufs_sub .., StableHlo.unary_bufs_sub .., StableHlo.unary_bufs_sub .., StableHlo.unary_bufs_sub ..⟩
/-- `main_while0_body` is the chain of its items, in order. -/
theorem while0_body_chain : main_while0_body (F := F) = (Pipeline.chain
  [ StableHlo.seq while0Ops0,
    StableHlo.seq while0Ops0_1,
    StableHlo.seq while0Ops0_2 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

end Cert.ReferenceIdeal.Gen

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_c, main_v0, main_cst, main_v1, main_c_0, main_c_1, main_v2_0, main_v2_1, main_v2_2, main_v2_3, main_v2_4]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_c_17, main_while0b_v39, main_while0b_c_18, main_while0b_v40, main_while0b_c_19, main_while0b_v41, main_while0b_v42, main_while0b_c_20, main_while0b_v43, main_while0b_v44, main_while0b_v45, main_while0b_v46, main_while0b_c_21, main_while0b_v47, main_while0b_c_22, main_while0b_v48, main_while0b_v49, main_while0b_c_23, main_while0b_c_24, main_while0b_v50, main_while0b_c_25, main_while0b_c_26, main_while0b_v51, main_while0b_c_27, main_while0b_v52, main_while0b_v53, main_while0b_v54, main_while0b_v55, main_while0b_v56, main_while0b_v57, main_while0b_v58, main_while0b_cst_28, main_while0b_v59, main_while0b_v60]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call0_v0, main_while0b_call0_cst, main_while0b_call0_c, main_while0b_call0_v1_0, main_while0b_v61]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_c_29, main_while0b_v62, main_while0b_c_30, main_while0b_v63, main_while0b_v64, main_while0b_v65, main_while0b_v66, main_while0b_v67, main_while0b_c_31, main_while0b_v68, main_v2_1, main_v2_2, main_v2_3, main_v2_4]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- No operation of `hostOps0_2` allocates a buffer. -/
theorem hostOps0_2_fresh : (hostOps0_2 : List (HloOp τ sig (Elt F))).Forall fun op => op.fresh = ∅ :=
  StableHlo.forall_fresh_of_map rfl
/-- No operation of `hostOps0_3` allocates a buffer. -/
theorem hostOps0_3_fresh : (hostOps0_3 : List (HloOp τ sig (Elt F))).Forall fun op => op.fresh = ∅ :=
  StableHlo.forall_fresh_of_map rfl
/-- The reference each operation of `hostOps0_1` writes, in order. -/
abbrev hostOps0_1_W : List (Ref sig .tc) := [main_c_2, main_v3, main_v4, main_c_3, main_v5, main_v6, main_v7, main_v8, main_v9, main_v10, main_cst_4, main_v11, main_v12, main_v13, main_cst_5, main_v14, main_v15, main_v16, main_v17, main_v18, main_v19, main_v20, main_cst_6, main_v21, main_v22, main_v23, main_cst_7, main_v24, main_v25, main_cst_8, main_cst_9]
theorem hostOps0_1_writes : (hostOps0_1 : List (HloOp τ sig (Elt F))).Forall fun op => op.writes ⊆ (hostOps0_1_W.map (Proc.devRef (τ := τ) .tc)).toFinset :=
  StableHlo.forall_writes_sub_of_map rfl
/-- The reference each operation of `hostOps0_2` writes, in order. -/
abbrev hostOps0_2_W : List (Ref sig .tc) := [main_call1_v0, main_call1_v1, main_v26]
theorem hostOps0_2_writes : (hostOps0_2 : List (HloOp τ sig (Elt F))).Forall fun op => op.writes ⊆ (hostOps0_2_W.map (Proc.devRef (τ := τ) .tc)).toFinset :=
  StableHlo.forall_writes_sub_of_map rfl
/-- The reference each operation of `hostOps0_3` writes, in order. -/
abbrev hostOps0_3_W : List (Ref sig .tc) := [main_v27, main_cst_10, main_v28, main_cst_11, main_v29, main_v30, main_v31, main_v32, main_v33, main_v34, main_cst_12, main_v35, main_v36, main_v37, main_v38]
theorem hostOps0_3_writes : (hostOps0_3 : List (HloOp τ sig (Elt F))).Forall fun op => op.writes ⊆ (hostOps0_3_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_17 (constantI S_ 32 4095#32),
    StableHlo.binary main_v2_1 main_while0c_c_17 main_while0c_v39 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2]
abbrev postI : List (List (HloOp τ sig (Elt F))) := [hostOps0_1, hostOps0_2, hostOps0_3]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.nil)))
theorem hpost : Plain (postI (F := F)) := .cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.nil)))

/-- The reference each operation of `condOps` writes, in order. -/
abbrev condOps_W : List (Ref sig .tc) := [main_while0c_c_17, main_while0c_v39]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v2_1`) is written by one stretch of the body, `while0Ops0_2`: not by the condition, nor by the
    body's other stretches. -/
theorem ctr_cond (V : Valuation τ sig (Elt F)) : after condOps V (Proc.devRef .tc main_v2_1) = V (Proc.devRef .tc main_v2_1) :=
  after_of_writes_sub condOps V condOps_writes (by decide +kernel)
theorem ctr_while0Ops0 (V : Valuation τ sig (Elt F)) : after while0Ops0 V (Proc.devRef .tc main_v2_1) = V (Proc.devRef .tc main_v2_1) :=
  after_of_writes_sub while0Ops0 V while0Ops0_writes (by decide +kernel)
theorem ctr_while0Ops0_1 (V : Valuation τ sig (Elt F)) : after while0Ops0_1 V (Proc.devRef .tc main_v2_1) = V (Proc.devRef .tc main_v2_1) :=
  after_of_writes_sub while0Ops0_1 V while0Ops0_1_writes (by decide +kernel)

/-- The body's operations 1 … 11 of 53. -/
abbrev trip_w0 : List (HloOp τ sig (Elt F)) :=
  [ StableHlo.nullary main_while0b_c_17 (constantI S_ 32 1#32),
    StableHlo.binary main_v2_2 main_while0b_c_17 main_while0b_v39 (addi : (⟨S_, .i32⟩ : BufTy).Contents (Elt F) → (⟨S_, .i32⟩ : BufTy).Contents (Elt F) → (⟨S_, .i32⟩ : BufTy).Contents (Elt F)),
    StableHlo.nullary main_while0b_c_18 (constantI S_ 32 1#32),
    StableHlo.binary main_v2_2 main_while0b_c_18 main_while0b_v40 (subi : (⟨S_, .i32⟩ : BufTy).Contents (Elt F) → (⟨S_, .i32⟩ : BufTy).Contents (Elt F) → (⟨S_, .i32⟩ : BufTy).Contents (Elt F)),
    StableHlo.nullary main_while0b_c_19 (constantI S_ 32 0#32),
    StableHlo.binary main_while0b_v40 main_while0b_c_19 main_while0b_v41 (cmpi .slt : (⟨S_, .i32⟩ : BufTy).Contents (Elt F) → (⟨S_, .i32⟩ : BufTy).Contents (Elt F) → (⟨S_, .i1⟩ : BufTy).Contents (Elt F)),
    StableHlo.unary main_while0b_v40 main_while0b_v42 (id : (⟨S_, .i32⟩ : BufTy).Contents (Elt F) → (⟨S_, .i32⟩ : BufTy).Contents (Elt F)),
    StableHlo.nullary main_while0b_c_20 (constantI S_ 32 4096#32),
    StableHlo.binary main_while0b_v42 main_while0b_c_20 main_while0b_v43 (addi : (⟨S_, .i32⟩ : BufTy).Contents (Elt F) → (⟨S_, .i32⟩ : BufTy).Contents (Elt F) → (⟨S_, .i32⟩ : BufTy).Contents (Elt F)),
    StableHlo.ternary main_while0b_v41 main_while0b_v43 main_while0b_v40 main_while0b_v44 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v2_3 ![main_while0b_v44] ⟨S_, .i32⟩ main_while0b_v45 ((fun x i => Host.dynamicSlice S1 x (fun k => (i k (Shape.Idx.first h_S_)).toInt) sliceFits_S4096_S1) : (⟨S4096, .i32⟩ : BufTy).Contents (Elt F) → (Fin 1 → (⟨S_, .i32⟩ : BufTy).Contents (Elt F)) → (⟨S1, .i32⟩ : BufTy).Contents (Elt F)) ]

/-- The body's operations 12 … 26 of 53. -/
abbrev trip_w1 : List (HloOp τ sig (Elt F)) :=
  [ StableHlo.reshape main_while0b_v45 main_while0b_v46 (rfl : (.i32 : EltTy) = .i32) shapeCasts_S1_S_,
    StableHlo.nullary main_while0b_c_21 (constantI S_ 32 0#32),
    StableHlo.binary main_while0b_v46 main_while0b_c_21 main_while0b_v47 (cmpi .slt : (⟨S_, .i32⟩ : BufTy).Contents (Elt F) → (⟨S_, .i32⟩ : BufTy).Contents (Elt F) → (⟨S_, .i1⟩ : BufTy).Contents (Elt F)),
    StableHlo.nullary main_while0b_c_22 (constantI S_ 32 16384#32),
    StableHlo.binary main_while0b_v46 main_while0b_c_22 main_while0b_v48 (addi : (⟨S_, .i32⟩ : BufTy).Contents (Elt F) → (⟨S_, .i32⟩ : BufTy).Contents (Elt F) → (⟨S_, .i32⟩ : BufTy).Contents (Elt F)),
    StableHlo.ternary main_while0b_v47 main_while0b_v48 main_while0b_v46 main_while0b_v49 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_23 (constantI S_ 32 0#32),
    StableHlo.nullary main_while0b_c_24 (constantI S_ 32 0#32),
    StableHlo.binary main_while0b_c_23 main_while0b_c_24 main_while0b_v50 (cmpi .slt : (⟨S_, .i32⟩ : BufTy).Contents (Elt F) → (⟨S_, .i32⟩ : BufTy).Contents (Elt F) → (⟨S_, .i1⟩ : BufTy).Contents (Elt F)),
    StableHlo.nullary main_while0b_c_25 (constantI S_ 32 0#32),
    StableHlo.nullary main_while0b_c_26 (constantI S_ 32 3#32),
    StableHlo.binary main_while0b_c_25 main_while0b_c_26 main_while0b_v51 (addi : (⟨S_, .i32⟩ : BufTy).Contents (Elt F) → (⟨S_, .i32⟩ : BufTy).Contents (Elt F) → (⟨S_, .i32⟩ : BufTy).Contents (Elt F)),
    StableHlo.nullary main_while0b_c_27 (constantI S_ 32 0#32),
    StableHlo.ternary main_while0b_v50 main_while0b_v51 main_while0b_c_27 main_while0b_v52 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v2_0 ![main_while0b_v49, main_while0b_v52] ⟨S_, .i32⟩ main_while0b_v53 ((fun x i => Host.dynamicSlice S1x3 x (fun k => (i k (Shape.Idx.first h_S_)).toInt) sliceFits_S16384x3_S1x3) : (⟨S16384x3, .f32⟩ : BufTy).Contents (Elt F) → (Fin 2 → (⟨S_, .i32⟩ : BufTy).Contents (Elt F)) → (⟨S1x3, .f32⟩ : BufTy).Contents (Elt F)) ]

/-- The body's operations 27 … 34 of 53. -/
abbrev trip_w2 : List (HloOp τ sig (Elt F)) :=
  [ StableHlo.reshape main_while0b_v53 main_while0b_v54 (rfl : (.f32 : EltTy) = .f32) shapeCasts_S1x3_S3,
    StableHlo.unary main_while0b_v54 main_while0b_v55 (broadcastInDim S1x3 ![1] bcast_S3_S1x3_1 : (⟨S3, .f32⟩ : BufTy).Contents (Elt F) → (⟨S1x3, .f32⟩ : BufTy).Contents (Elt F)),
    StableHlo.unary main_while0b_v55 main_while0b_v56 (broadcastInDim S16384x3 ![0, 1] bcast_S1x3_S16384x3_0_1 : (⟨S1x3, .f32⟩ : BufTy).Contents (Elt F) → (⟨S16384x3, .f32⟩ : BufTy).Contents (Elt F)),
    StableHlo.binary main_v2_0 main_while0b_v56 main_while0b_v57 (subf : (⟨S16384x3, .f32⟩ : BufTy).Contents (Elt F) → (⟨S16384x3, .f32⟩ : BufTy).Contents (Elt F) → (⟨S16384x3, .f32⟩ : BufTy).Contents (Elt F)),
    StableHlo.binary main_while0b_v57 main_while0b_v57 main_while0b_v58 (mulf : (⟨S16384x3, .f32⟩ : BufTy).Contents (Elt F) → (⟨S16384x3, .f32⟩ : BufTy).Contents (Elt F) → (⟨S16384x3, .f32⟩ : BufTy).Contents (Elt F)),
    StableHlo.nullary main_while0b_cst_28 (constant S_ .f32 0x00000000#32),
    StableHlo.binary main_while0b_v58 main_while0b_cst_28 main_while0b_v59 ((fun x v => Host.reduceAdd x v reducesTo_S16384x3_S16384_d1 h_S_) : (⟨S16384x3, .f32⟩ : BufTy).Contents (Elt F) → (⟨S_, .f32⟩ : BufTy).Contents (Elt F) → (⟨S16384, .f32⟩ : BufTy).Contents (Elt F)),
    StableHlo.binary main_v2_4 main_while0b_v59 main_while0b_v60 (minimumf : (⟨S16384, .f32⟩ : BufTy).Contents (Elt F) → (⟨S16384, .f32⟩ : BufTy).Contents (Elt F) → (⟨S16384, .f32⟩ : BufTy).Contents (Elt F)) ]

/-- The body's operations 35 … 39 of 53. -/
abbrev trip_w3 : List (HloOp τ sig (Elt F)) :=
  [ StableHlo.TRef.nullary (.of main_while0b_call0_v0 : StableHlo.TRef sig ⟨S16384, .i32⟩) (iotaInDim S16384 32 0),
    StableHlo.TRef.nullary (.of main_while0b_call0_cst : StableHlo.TRef sig ⟨S_, .f32⟩) (constant S_ .f32 0xFF800000#32),
    StableHlo.TRef.nullary (.of main_while0b_call0_c : StableHlo.TRef sig ⟨S_, .i32⟩) (constantI S_ 32 0#32),
    StableHlo.TRef.quaternary (.of main_while0b_v60 : StableHlo.TRef sig ⟨S16384, .f32⟩) (.of main_while0b_call0_v0 : StableHlo.TRef sig ⟨S16384, .i32⟩) (.of main_while0b_call0_cst : StableHlo.TRef sig ⟨S_, .f32⟩) (.of main_while0b_call0_c : StableHlo.TRef sig ⟨S_, .i32⟩) (.of main_while0b_call0_v1_0 : StableHlo.TRef sig ⟨S_, .f32⟩) (fun x y u v j => (Host.argReduce reducer_argmax_f32_i32 x y u v reducesTo_S16384_S_d0 h_S_ j).1),
    StableHlo.TRef.quaternary (.of main_while0b_v60 : StableHlo.TRef sig ⟨S16384, .f32⟩) (.of main_while0b_call0_v0 : StableHlo.TRef sig ⟨S16384, .i32⟩) (.of main_while0b_call0_cst : StableHlo.TRef sig ⟨S_, .f32⟩) (.of main_while0b_call0_c : StableHlo.TRef sig ⟨S_, .i32⟩) (.of main_while0b_v61 : StableHlo.TRef sig ⟨S_, .i32⟩) (fun x y u v j => (Host.argReduce reducer_argmax_f32_i32 x y u v reducesTo_S16384_S_d0 h_S_ j).2) ]

/-- The body's operations 40 … 47 of 53. -/
abbrev trip_w4 : List (HloOp τ sig (Elt F)) :=
  [ StableHlo.nullary main_while0b_c_29 (constantI S_ 32 0#32),
    StableHlo.binary main_v2_2 main_while0b_c_29 main_while0b_v62 (cmpi .slt : (⟨S_, .i32⟩ : BufTy).Contents (Elt F) → (⟨S_, .i32⟩ : BufTy).Contents (Elt F) → (⟨S_, .i1⟩ : BufTy).Contents (Elt F)),
    StableHlo.nullary main_while0b_c_30 (constantI S_ 32 4096#32),
    StableHlo.binary main_v2_2 main_while0b_c_30 main_while0b_v63 (addi : (⟨S_, .i32⟩ : BufTy).Contents (Elt F) → (⟨S_, .i32⟩ : BufTy).Contents (Elt F) → (⟨S_, .i32⟩ : BufTy).Contents (Elt F)),
    StableHlo.ternary main_while0b_v62 main_while0b_v63 main_v2_2 main_while0b_v64 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v64 main_while0b_v65 (id : (⟨S_, .i32⟩ : BufTy).Contents (Elt F) → (⟨S_, .i32⟩ : BufTy).Contents (Elt F)),
    StableHlo.unary main_while0b_v65 main_while0b_v66 (broadcastInDim S1 ![] bcast_S_S1 : (⟨S_, .i32⟩ : BufTy).Contents (Elt F) → (⟨S1, .i32⟩ : BufTy).Contents (Elt F)),
    StableHlo.ternary main_v2_3 main_while0b_v66 main_while0b_v61 main_while0b_v67 ((fun x i u => Host.scatter scatter_S4096_S1_S__n_0_0_0 (fun _ b => b) x i u) : (⟨S4096, .i32⟩ : BufTy).Contents (Elt F) → (⟨S1, .i32⟩ : BufTy).Contents (Elt F) → (⟨S_, .i32⟩ : BufTy).Contents (Elt F) → (⟨S4096, .i32⟩ : BufTy).Contents (Elt F)) ]

/-- The body's operations 48 … 53 of 53: the counter's step and the copies back into the carried buffers. -/
abbrev while0Ops0_2_step : List (HloOp τ sig (Elt F)) :=
  [ StableHlo.nullary main_while0b_c_31 (constantI S_ 32 1#32),
    StableHlo.binary main_v2_1 main_while0b_c_31 main_while0b_v68 (addi : (⟨S_, .i32⟩ : BufTy).Contents (Elt F) → (⟨S_, .i32⟩ : BufTy).Contents (Elt F) → (⟨S_, .i32⟩ : BufTy).Contents (Elt F)),
    StableHlo.unary main_while0b_v68 main_v2_1 id,
    StableHlo.unary main_while0b_v39 main_v2_2 id,
    StableHlo.unary main_while0b_v67 main_v2_3 id,
    StableHlo.unary main_while0b_v60 main_v2_4 id ]

set_option maxRecDepth 5000 in
/-- `while0Ops0` is its windows in order. -/
theorem while0Ops0_cut : (while0Ops0 : List (HloOp τ sig (Elt F))) = trip_w0 ++ (trip_w1 ++ (trip_w2)) := rfl
set_option maxRecDepth 5000 in
/-- `while0Ops0_1` is its windows in order. -/
theorem while0Ops0_1_cut : (while0Ops0_1 : List (HloOp τ sig (Elt F))) = trip_w3 := rfl
set_option maxRecDepth 5000 in
/-- `while0Ops0_2` is its windows in order, then the step. -/
theorem while0Ops0_2_cut : (while0Ops0_2 : List (HloOp τ sig (Elt F))) = trip_w4 ++ (while0Ops0_2_step) := rfl

/-- The buffers that window `trip_w0`'s operations write. -/
abbrev trip_w0_W : List (Ref sig .tc) := [main_while0b_c_17, main_while0b_v39, main_while0b_c_18, main_while0b_v40, main_while0b_c_19, main_while0b_v41, main_while0b_v42, main_while0b_c_20, main_while0b_v43, main_while0b_v44, main_while0b_v45]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w1`'s operations write. -/
abbrev trip_w1_W : List (Ref sig .tc) := [main_while0b_v46, main_while0b_c_21, main_while0b_v47, main_while0b_c_22, main_while0b_v48, main_while0b_v49, main_while0b_c_23, main_while0b_c_24, main_while0b_v50, main_while0b_c_25, main_while0b_c_26, main_while0b_v51, main_while0b_c_27, main_while0b_v52, main_while0b_v53]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w2`'s operations write. -/
abbrev trip_w2_W : List (Ref sig .tc) := [main_while0b_v54, main_while0b_v55, main_while0b_v56, main_while0b_v57, main_while0b_v58, main_while0b_cst_28, main_while0b_v59, main_while0b_v60]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w3`'s operations write. -/
abbrev trip_w3_W : List (Ref sig .tc) := [main_while0b_call0_v0, main_while0b_call0_cst, main_while0b_call0_c, main_while0b_call0_v1_0, main_while0b_v61]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w4`'s operations write. -/
abbrev trip_w4_W : List (Ref sig .tc) := [main_while0b_c_29, main_while0b_v62, main_while0b_c_30, main_while0b_v63, main_while0b_v64, main_while0b_v65, main_while0b_v66, main_while0b_v67]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ctr_trip_w4 (V : Valuation τ sig (Elt F)) : after trip_w4 V (Proc.devRef .tc main_v2_1) = V (Proc.devRef .tc main_v2_1) :=
  after_of_writes_sub trip_w4 V trip_w4_writes (by decide +kernel)

set_option maxRecDepth 100000 in
/-- `while0Ops0_2_step` leaves the counter one step on. -/
theorem ctr_while0Ops0_2_step (Y : Valuation τ sig (Elt F)) :
    after while0Ops0_2_step Y (Proc.devRef .tc main_v2_1) = addi (Y (Proc.devRef .tc main_v2_1)) (constantI S_ 32 1#32) := by
  after_results
  rfl

set_option maxRecDepth 100000 in
/-- `while0Ops0_2` leaves the counter one step on: its windows do not write the counter, and `while0Ops0_2_step` steps it. -/
theorem ctr_step (X : Valuation τ sig (Elt F)) :
    after while0Ops0_2 X (Proc.devRef .tc main_v2_1) = addi (X (Proc.devRef .tc main_v2_1)) (constantI S_ 32 1#32) := by
  simp only [while0Ops0_2_cut, after_append]
  rw [ctr_while0Ops0_2_step, ctr_trip_w4]

/-- The counter is the loop's lower bound at the loop's entry: its last writer before the loop read back. -/
theorem ctr_entry (c : Dev nD) : entryContents preI m c (Proc.devRef .tc main_v2_1) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v2_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 4095 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v2_1 HostLoop.idx0)
        (HloOp.result _ (atK m k c) main_while0c_c_17 HostLoop.idx0) = 1#1) (k < 4095)
    rw [nullary_result_ne _ _ _ _ (by decide), nullary_result, hctr]
    exact Scf.cmpi_slt_iv_ub_iff (lb := 0#32) (ub := 4095#32) (st := 1#32) (by decide) (show k ≤ Scf.trips 0#32 4095#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 4095 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 4095 m ρ (cond_spec m)

/-! ## One trip's values -/

set_option maxRecDepth 8192 in
/-- `main_while0b_v40`'s composed term of the carried buffers (named: it is used 3 times). -/
def res_main_while0b_v40 (V0 : Valuation τ sig (Elt F)) : (Proc.devRef .tc main_while0b_v40 : DevRef τ sig).ty.Contents (Elt F) :=
  subi (V0 (Proc.devRef .tc main_v2_2)) (constantI S_ 32 1#32)

set_option maxRecDepth 8192 in
/-- `main_while0b_v46`'s composed term of the carried buffers (named: it is used 3 times). -/
def res_main_while0b_v46 (V0 : Valuation τ sig (Elt F)) : (Proc.devRef .tc main_while0b_v46 : DevRef τ sig).ty.Contents (Elt F) :=
  shapeCast S_ (Host.dynamicSlice S1 (V0 (Proc.devRef .tc main_v2_3)) (fun k => (((![select (cmpi .slt (res_main_while0b_v40 V0) (constantI S_ 32 0#32)) (addi (id (res_main_while0b_v40 V0)) (constantI S_ 32 4096#32)) (res_main_while0b_v40 V0)] : Fin 1 → (⟨S_, .i32⟩ : BufTy).Contents (Elt F))) k (Shape.Idx.first h_S_)).toInt) sliceFits_S4096_S1) shapeCasts_S1_S_

set_option maxRecDepth 8192 in
/-- `main_while0b_v57`'s composed term of the carried buffers (named: it is used 2 times). -/
def res_main_while0b_v57 (V0 : Valuation τ sig (Elt F)) : (Proc.devRef .tc main_while0b_v57 : DevRef τ sig).ty.Contents (Elt F) :=
  subf (V0 (Proc.devRef .tc main_v2_0)) (broadcastInDim S16384x3 ![0, 1] bcast_S1x3_S16384x3_0_1 (broadcastInDim S1x3 ![1] bcast_S3_S1x3_1 (shapeCast S3 (Host.dynamicSlice S1x3 (V0 (Proc.devRef .tc main_v2_0)) (fun k => (((![select (cmpi .slt (res_main_while0b_v46 V0) (constantI S_ 32 0#32)) (addi (res_main_while0b_v46 V0) (constantI S_ 32 16384#32)) (res_main_while0b_v46 V0), select (cmpi .slt (constantI S_ 32 0#32) (constantI S_ 32 0#32)) (addi (constantI S_ 32 0#32) (constantI S_ 32 3#32)) (constantI S_ 32 0#32)] : Fin 2 → (⟨S_, .i32⟩ : BufTy).Contents (Elt F))) k (Shape.Idx.first h_S_)).toInt) sliceFits_S16384x3_S1x3) shapeCasts_S1x3_S3)))

set_option maxRecDepth 8192 in
/-- `main_while0b_v60`'s composed term of the carried buffers (named: it is used 3 times). -/
def res_main_while0b_v60 (V0 : Valuation τ sig (Elt F)) : (Proc.devRef .tc main_while0b_v60 : DevRef τ sig).ty.Contents (Elt F) :=
  minimumf (V0 (Proc.devRef .tc main_v2_4)) (Host.reduceAdd (mulf (res_main_while0b_v57 V0) (res_main_while0b_v57 V0)) (constant S_ .f32 0x00000000#32) reducesTo_S16384x3_S16384_d1 h_S_)

set_option maxRecDepth 8192 in
/-- `main_while0b_call0_v0`'s composed term of the carried buffers (named: it is used 2 times). -/
def res_main_while0b_call0_v0 (V0 : Valuation τ sig (Elt F)) : (Proc.devRef .tc main_while0b_call0_v0 : DevRef τ sig).ty.Contents (Elt F) :=
  iotaInDim S16384 32 0

set_option maxRecDepth 8192 in
/-- `main_while0b_call0_cst`'s composed term of the carried buffers (named: it is used 2 times). -/
def res_main_while0b_call0_cst (V0 : Valuation τ sig (Elt F)) : (Proc.devRef .tc main_while0b_call0_cst : DevRef τ sig).ty.Contents (Elt F) :=
  constant S_ .f32 0xFF800000#32

set_option maxRecDepth 8192 in
/-- `main_while0b_call0_c`'s composed term of the carried buffers (named: it is used 2 times). -/
def res_main_while0b_call0_c (V0 : Valuation τ sig (Elt F)) : (Proc.devRef .tc main_while0b_call0_c : DevRef τ sig).ty.Contents (Elt F) :=
  constantI S_ 32 0#32

/-- The device's buffer contents before the body's first window. -/
def val0 (V0 : Valuation τ sig (Elt F)) : Valuation τ sig (Elt F) := V0
theorem val0_main_v2_2 (V0 : Valuation τ sig (Elt F)) : val0 V0 (no_index (Proc.devRef .tc main_v2_2)) = V0 (Proc.devRef .tc main_v2_2) := rfl
theorem val0_main_v2_3 (V0 : Valuation τ sig (Elt F)) : val0 V0 (no_index (Proc.devRef .tc main_v2_3)) = V0 (Proc.devRef .tc main_v2_3) := rfl
theorem val0_main_v2_0 (V0 : Valuation τ sig (Elt F)) : val0 V0 (no_index (Proc.devRef .tc main_v2_0)) = V0 (Proc.devRef .tc main_v2_0) := rfl
theorem val0_main_v2_4 (V0 : Valuation τ sig (Elt F)) : val0 V0 (no_index (Proc.devRef .tc main_v2_4)) = V0 (Proc.devRef .tc main_v2_4) := rfl
theorem val0_main_v2_1 (V0 : Valuation τ sig (Elt F)) : val0 V0 (no_index (Proc.devRef .tc main_v2_1)) = V0 (Proc.devRef .tc main_v2_1) := rfl

/-- The device's buffer contents after the body's first 1 window. -/
def val1 (V0 : Valuation τ sig (Elt F)) : Valuation τ sig (Elt F) := after trip_w0 (val0 V0)
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v2_2 (V0 : Valuation τ sig (Elt F)) : val1 V0 (no_index (Proc.devRef .tc main_v2_2)) = V0 (Proc.devRef .tc main_v2_2) :=
  (val1_keep V0 main_v2_2 (by decide)).trans (val0_main_v2_2 V0)
theorem val1_main_v2_3 (V0 : Valuation τ sig (Elt F)) : val1 V0 (no_index (Proc.devRef .tc main_v2_3)) = V0 (Proc.devRef .tc main_v2_3) :=
  (val1_keep V0 main_v2_3 (by decide)).trans (val0_main_v2_3 V0)
theorem val1_main_v2_0 (V0 : Valuation τ sig (Elt F)) : val1 V0 (no_index (Proc.devRef .tc main_v2_0)) = V0 (Proc.devRef .tc main_v2_0) :=
  (val1_keep V0 main_v2_0 (by decide)).trans (val0_main_v2_0 V0)
theorem val1_main_v2_4 (V0 : Valuation τ sig (Elt F)) : val1 V0 (no_index (Proc.devRef .tc main_v2_4)) = V0 (Proc.devRef .tc main_v2_4) :=
  (val1_keep V0 main_v2_4 (by decide)).trans (val0_main_v2_4 V0)
theorem val1_main_v2_1 (V0 : Valuation τ sig (Elt F)) : val1 V0 (no_index (Proc.devRef .tc main_v2_1)) = V0 (Proc.devRef .tc main_v2_1) :=
  (val1_keep V0 main_v2_1 (by decide)).trans (val0_main_v2_1 V0)
set_option maxRecDepth 8192 in
set_option maxHeartbeats 1100000 in
theorem val1_main_while0b_v39 (V0 : Valuation τ sig (Elt F)) : val1 V0 (no_index (Proc.devRef .tc main_while0b_v39)) = addi (V0 (Proc.devRef .tc main_v2_2)) (constantI S_ 32 1#32) := by
  unfold val1
  simp only [trip_w0]
  after_results_entrywise [val0_main_v2_2, cast_eq]
set_option maxRecDepth 8192 in
set_option maxHeartbeats 1100000 in
theorem val1_main_while0b_v45 (V0 : Valuation τ sig (Elt F)) : val1 V0 (no_index (Proc.devRef .tc main_while0b_v45)) = Host.dynamicSlice S1 (V0 (Proc.devRef .tc main_v2_3)) (fun k => (((![select (cmpi .slt (res_main_while0b_v40 V0) (constantI S_ 32 0#32)) (addi (id (res_main_while0b_v40 V0)) (constantI S_ 32 4096#32)) (res_main_while0b_v40 V0)] : Fin 1 → (⟨S_, .i32⟩ : BufTy).Contents (Elt F))) k (Shape.Idx.first h_S_)).toInt) sliceFits_S4096_S1 := by
  unfold val1
  simp only [trip_w0]
  after_results_entrywise [val0_main_v2_2, val0_main_v2_3, res_main_while0b_v40, cast_eq]

/-- The device's buffer contents after the body's first 2 windows. -/
def val2 (V0 : Valuation τ sig (Elt F)) : Valuation τ sig (Elt F) := after trip_w1 (val1 V0)
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v2_2 (V0 : Valuation τ sig (Elt F)) : val2 V0 (no_index (Proc.devRef .tc main_v2_2)) = V0 (Proc.devRef .tc main_v2_2) :=
  (val2_keep V0 main_v2_2 (by decide)).trans (val1_main_v2_2 V0)
theorem val2_main_v2_3 (V0 : Valuation τ sig (Elt F)) : val2 V0 (no_index (Proc.devRef .tc main_v2_3)) = V0 (Proc.devRef .tc main_v2_3) :=
  (val2_keep V0 main_v2_3 (by decide)).trans (val1_main_v2_3 V0)
theorem val2_main_v2_0 (V0 : Valuation τ sig (Elt F)) : val2 V0 (no_index (Proc.devRef .tc main_v2_0)) = V0 (Proc.devRef .tc main_v2_0) :=
  (val2_keep V0 main_v2_0 (by decide)).trans (val1_main_v2_0 V0)
theorem val2_main_v2_4 (V0 : Valuation τ sig (Elt F)) : val2 V0 (no_index (Proc.devRef .tc main_v2_4)) = V0 (Proc.devRef .tc main_v2_4) :=
  (val2_keep V0 main_v2_4 (by decide)).trans (val1_main_v2_4 V0)
theorem val2_main_v2_1 (V0 : Valuation τ sig (Elt F)) : val2 V0 (no_index (Proc.devRef .tc main_v2_1)) = V0 (Proc.devRef .tc main_v2_1) :=
  (val2_keep V0 main_v2_1 (by decide)).trans (val1_main_v2_1 V0)
theorem val2_main_while0b_v39 (V0 : Valuation τ sig (Elt F)) : val2 V0 (no_index (Proc.devRef .tc main_while0b_v39)) = addi (V0 (Proc.devRef .tc main_v2_2)) (constantI S_ 32 1#32) :=
  (val2_keep V0 main_while0b_v39 (by decide)).trans (val1_main_while0b_v39 V0)
set_option maxRecDepth 8192 in
set_option maxHeartbeats 1500000 in
theorem val2_main_while0b_v53 (V0 : Valuation τ sig (Elt F)) : val2 V0 (no_index (Proc.devRef .tc main_while0b_v53)) = Host.dynamicSlice S1x3 (V0 (Proc.devRef .tc main_v2_0)) (fun k => (((![select (cmpi .slt (res_main_while0b_v46 V0) (constantI S_ 32 0#32)) (addi (res_main_while0b_v46 V0) (constantI S_ 32 16384#32)) (res_main_while0b_v46 V0), select (cmpi .slt (constantI S_ 32 0#32) (constantI S_ 32 0#32)) (addi (constantI S_ 32 0#32) (constantI S_ 32 3#32)) (constantI S_ 32 0#32)] : Fin 2 → (⟨S_, .i32⟩ : BufTy).Contents (Elt F))) k (Shape.Idx.first h_S_)).toInt) sliceFits_S16384x3_S1x3 := by
  unfold val2
  simp only [trip_w1]
  after_results_entrywise [val1_main_while0b_v45, val1_main_v2_0, res_main_while0b_v46, cast_eq]

/-- The device's buffer contents after the body's first 3 windows. -/
def val3 (V0 : Valuation τ sig (Elt F)) : Valuation τ sig (Elt F) := after trip_w2 (val2 V0)
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v2_2 (V0 : Valuation τ sig (Elt F)) : val3 V0 (no_index (Proc.devRef .tc main_v2_2)) = V0 (Proc.devRef .tc main_v2_2) :=
  (val3_keep V0 main_v2_2 (by decide)).trans (val2_main_v2_2 V0)
theorem val3_main_v2_3 (V0 : Valuation τ sig (Elt F)) : val3 V0 (no_index (Proc.devRef .tc main_v2_3)) = V0 (Proc.devRef .tc main_v2_3) :=
  (val3_keep V0 main_v2_3 (by decide)).trans (val2_main_v2_3 V0)
theorem val3_main_v2_0 (V0 : Valuation τ sig (Elt F)) : val3 V0 (no_index (Proc.devRef .tc main_v2_0)) = V0 (Proc.devRef .tc main_v2_0) :=
  (val3_keep V0 main_v2_0 (by decide)).trans (val2_main_v2_0 V0)
theorem val3_main_v2_4 (V0 : Valuation τ sig (Elt F)) : val3 V0 (no_index (Proc.devRef .tc main_v2_4)) = V0 (Proc.devRef .tc main_v2_4) :=
  (val3_keep V0 main_v2_4 (by decide)).trans (val2_main_v2_4 V0)
theorem val3_main_v2_1 (V0 : Valuation τ sig (Elt F)) : val3 V0 (no_index (Proc.devRef .tc main_v2_1)) = V0 (Proc.devRef .tc main_v2_1) :=
  (val3_keep V0 main_v2_1 (by decide)).trans (val2_main_v2_1 V0)
theorem val3_main_while0b_v39 (V0 : Valuation τ sig (Elt F)) : val3 V0 (no_index (Proc.devRef .tc main_while0b_v39)) = addi (V0 (Proc.devRef .tc main_v2_2)) (constantI S_ 32 1#32) :=
  (val3_keep V0 main_while0b_v39 (by decide)).trans (val2_main_while0b_v39 V0)
set_option maxRecDepth 8192 in
theorem val3_main_while0b_v60 (V0 : Valuation τ sig (Elt F)) : val3 V0 (no_index (Proc.devRef .tc main_while0b_v60)) = res_main_while0b_v60 V0 := by
  unfold val3
  simp only [trip_w2]
  after_results_entrywise [val2_main_while0b_v53, val2_main_v2_0, val2_main_v2_4, res_main_while0b_v57, res_main_while0b_v60, cast_eq]

/-- The device's buffer contents after the body's first 4 windows. -/
def val4 (V0 : Valuation τ sig (Elt F)) : Valuation τ sig (Elt F) := after trip_w3 (val3 V0)
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v2_2 (V0 : Valuation τ sig (Elt F)) : val4 V0 (no_index (Proc.devRef .tc main_v2_2)) = V0 (Proc.devRef .tc main_v2_2) :=
  (val4_keep V0 main_v2_2 (by decide)).trans (val3_main_v2_2 V0)
theorem val4_main_v2_3 (V0 : Valuation τ sig (Elt F)) : val4 V0 (no_index (Proc.devRef .tc main_v2_3)) = V0 (Proc.devRef .tc main_v2_3) :=
  (val4_keep V0 main_v2_3 (by decide)).trans (val3_main_v2_3 V0)
theorem val4_main_v2_0 (V0 : Valuation τ sig (Elt F)) : val4 V0 (no_index (Proc.devRef .tc main_v2_0)) = V0 (Proc.devRef .tc main_v2_0) :=
  (val4_keep V0 main_v2_0 (by decide)).trans (val3_main_v2_0 V0)
theorem val4_main_v2_4 (V0 : Valuation τ sig (Elt F)) : val4 V0 (no_index (Proc.devRef .tc main_v2_4)) = V0 (Proc.devRef .tc main_v2_4) :=
  (val4_keep V0 main_v2_4 (by decide)).trans (val3_main_v2_4 V0)
theorem val4_main_v2_1 (V0 : Valuation τ sig (Elt F)) : val4 V0 (no_index (Proc.devRef .tc main_v2_1)) = V0 (Proc.devRef .tc main_v2_1) :=
  (val4_keep V0 main_v2_1 (by decide)).trans (val3_main_v2_1 V0)
theorem val4_main_while0b_v39 (V0 : Valuation τ sig (Elt F)) : val4 V0 (no_index (Proc.devRef .tc main_while0b_v39)) = addi (V0 (Proc.devRef .tc main_v2_2)) (constantI S_ 32 1#32) :=
  (val4_keep V0 main_while0b_v39 (by decide)).trans (val3_main_while0b_v39 V0)
theorem val4_main_while0b_v60 (V0 : Valuation τ sig (Elt F)) : val4 V0 (no_index (Proc.devRef .tc main_while0b_v60)) = res_main_while0b_v60 V0 :=
  (val4_keep V0 main_while0b_v60 (by decide)).trans (val3_main_while0b_v60 V0)
set_option maxRecDepth 8192 in
theorem val4_main_while0b_v61 (V0 : Valuation τ sig (Elt F)) : val4 V0 (no_index (Proc.devRef .tc main_while0b_v61)) = fun j => (Host.argReduce reducer_argmax_f32_i32 (res_main_while0b_v60 V0) (res_main_while0b_call0_v0 V0) (res_main_while0b_call0_cst V0) (res_main_while0b_call0_c V0) reducesTo_S16384_S_d0 h_S_ j).2 := by
  unfold val4
  simp only [trip_w3]
  after_results_entrywise [val3_main_while0b_v60, res_main_while0b_call0_v0, res_main_while0b_call0_cst, res_main_while0b_call0_c, cast_eq]

/-- The device's buffer contents after the body's first 5 windows. -/
def val5 (V0 : Valuation τ sig (Elt F)) : Valuation τ sig (Elt F) := after trip_w4 (val4 V0)
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v2_2 (V0 : Valuation τ sig (Elt F)) : val5 V0 (no_index (Proc.devRef .tc main_v2_2)) = V0 (Proc.devRef .tc main_v2_2) :=
  (val5_keep V0 main_v2_2 (by decide)).trans (val4_main_v2_2 V0)
theorem val5_main_v2_3 (V0 : Valuation τ sig (Elt F)) : val5 V0 (no_index (Proc.devRef .tc main_v2_3)) = V0 (Proc.devRef .tc main_v2_3) :=
  (val5_keep V0 main_v2_3 (by decide)).trans (val4_main_v2_3 V0)
theorem val5_main_v2_0 (V0 : Valuation τ sig (Elt F)) : val5 V0 (no_index (Proc.devRef .tc main_v2_0)) = V0 (Proc.devRef .tc main_v2_0) :=
  (val5_keep V0 main_v2_0 (by decide)).trans (val4_main_v2_0 V0)
theorem val5_main_v2_4 (V0 : Valuation τ sig (Elt F)) : val5 V0 (no_index (Proc.devRef .tc main_v2_4)) = V0 (Proc.devRef .tc main_v2_4) :=
  (val5_keep V0 main_v2_4 (by decide)).trans (val4_main_v2_4 V0)
theorem val5_main_v2_1 (V0 : Valuation τ sig (Elt F)) : val5 V0 (no_index (Proc.devRef .tc main_v2_1)) = V0 (Proc.devRef .tc main_v2_1) :=
  (val5_keep V0 main_v2_1 (by decide)).trans (val4_main_v2_1 V0)
theorem val5_main_while0b_v39 (V0 : Valuation τ sig (Elt F)) : val5 V0 (no_index (Proc.devRef .tc main_while0b_v39)) = addi (V0 (Proc.devRef .tc main_v2_2)) (constantI S_ 32 1#32) :=
  (val5_keep V0 main_while0b_v39 (by decide)).trans (val4_main_while0b_v39 V0)
theorem val5_main_while0b_v60 (V0 : Valuation τ sig (Elt F)) : val5 V0 (no_index (Proc.devRef .tc main_while0b_v60)) = res_main_while0b_v60 V0 :=
  (val5_keep V0 main_while0b_v60 (by decide)).trans (val4_main_while0b_v60 V0)
set_option maxRecDepth 8192 in
theorem val5_main_while0b_v67 (V0 : Valuation τ sig (Elt F)) : val5 V0 (no_index (Proc.devRef .tc main_while0b_v67)) = Host.scatter scatter_S4096_S1_S__n_0_0_0 (fun _ b => b) (V0 (Proc.devRef .tc main_v2_3)) (broadcastInDim S1 ![] bcast_S_S1 (id (select (cmpi .slt (V0 (Proc.devRef .tc main_v2_2)) (constantI S_ 32 0#32)) (addi (V0 (Proc.devRef .tc main_v2_2)) (constantI S_ 32 4096#32)) (V0 (Proc.devRef .tc main_v2_2))))) (fun j => (Host.argReduce reducer_argmax_f32_i32 (res_main_while0b_v60 V0) (res_main_while0b_call0_v0 V0) (res_main_while0b_call0_cst V0) (res_main_while0b_call0_c V0) reducesTo_S16384_S_d0 h_S_ j).2) := by
  unfold val5
  simp only [trip_w4]
  after_results_entrywise [val4_main_while0b_v61, val4_main_v2_2, val4_main_v2_3, cast_eq]

set_option maxRecDepth 8192 in
/-- The body's stretches, from any contents: the trip's windows in order, then `while0Ops0_2`'s step. -/
theorem trip_windows (V0 : Valuation τ sig (Elt F)) : after while0Ops0_2 (after while0Ops0_1 (after while0Ops0 (V0))) = after while0Ops0_2_step (val5 V0) := by
  simp only [while0Ops0_cut, while0Ops0_1_cut, while0Ops0_2_cut, after_append]
  rfl

set_option maxRecDepth 8192 in
set_option maxHeartbeats 2000000 in
/-- `main_v2_0` after one trip's body, from any contents. -/
theorem trip_main_v2_0 (V0 : Valuation τ sig (Elt F)) : afterL bodyI V0 (no_index (Proc.devRef .tc main_v2_0)) = V0 (Proc.devRef .tc main_v2_0) := by
  simp only [bodyI, afterL_cons, afterL_nil, trip_windows]
  after_results
  all_goals (try simp only [val5_main_while0b_v39, val5_main_while0b_v67, val5_main_while0b_v60, val5_main_v2_0, val5_main_v2_1, val5_main_v2_2, val5_main_v2_3, val5_main_v2_4]) <;> rfl
set_option maxRecDepth 8192 in
set_option maxHeartbeats 2000000 in
/-- `main_v2_1` after one trip's body, from any contents. -/
theorem trip_main_v2_1 (V0 : Valuation τ sig (Elt F)) : afterL bodyI V0 (no_index (Proc.devRef .tc main_v2_1)) = id (addi (V0 (Proc.devRef .tc main_v2_1)) (constantI S_ 32 1#32)) := by
  simp only [bodyI, afterL_cons, afterL_nil, trip_windows]
  after_results
  all_goals (try simp only [val5_main_while0b_v39, val5_main_while0b_v67, val5_main_while0b_v60, val5_main_v2_0, val5_main_v2_1, val5_main_v2_2, val5_main_v2_3, val5_main_v2_4]) <;> rfl
set_option maxRecDepth 8192 in
set_option maxHeartbeats 2000000 in
/-- `main_v2_2` after one trip's body, from any contents. -/
theorem trip_main_v2_2 (V0 : Valuation τ sig (Elt F)) : afterL bodyI V0 (no_index (Proc.devRef .tc main_v2_2)) = id (addi (V0 (Proc.devRef .tc main_v2_2)) (constantI S_ 32 1#32)) := by
  simp only [bodyI, afterL_cons, afterL_nil, trip_windows]
  after_results
  all_goals (try simp only [val5_main_while0b_v39, val5_main_while0b_v67, val5_main_while0b_v60, val5_main_v2_0, val5_main_v2_1, val5_main_v2_2, val5_main_v2_3, val5_main_v2_4]) <;> rfl
set_option maxRecDepth 8192 in
set_option maxHeartbeats 2000000 in
/-- `main_v2_3` after one trip's body, from any contents. -/
theorem trip_main_v2_3 (V0 : Valuation τ sig (Elt F)) : afterL bodyI V0 (no_index (Proc.devRef .tc main_v2_3)) = id (Host.scatter scatter_S4096_S1_S__n_0_0_0 (fun _ b => b) (V0 (Proc.devRef .tc main_v2_3)) (broadcastInDim S1 ![] bcast_S_S1 (id (select (cmpi .slt (V0 (Proc.devRef .tc main_v2_2)) (constantI S_ 32 0#32)) (addi (V0 (Proc.devRef .tc main_v2_2)) (constantI S_ 32 4096#32)) (V0 (Proc.devRef .tc main_v2_2))))) (fun j => (Host.argReduce reducer_argmax_f32_i32 (res_main_while0b_v60 V0) (res_main_while0b_call0_v0 V0) (res_main_while0b_call0_cst V0) (res_main_while0b_call0_c V0) reducesTo_S16384_S_d0 h_S_ j).2)) := by
  simp only [bodyI, afterL_cons, afterL_nil, trip_windows]
  after_results
  all_goals (try simp only [val5_main_while0b_v39, val5_main_while0b_v67, val5_main_while0b_v60, val5_main_v2_0, val5_main_v2_1, val5_main_v2_2, val5_main_v2_3, val5_main_v2_4]) <;> rfl
set_option maxRecDepth 8192 in
set_option maxHeartbeats 2000000 in
/-- `main_v2_4` after one trip's body, from any contents. -/
theorem trip_main_v2_4 (V0 : Valuation τ sig (Elt F)) : afterL bodyI V0 (no_index (Proc.devRef .tc main_v2_4)) = id (res_main_while0b_v60 V0) := by
  simp only [bodyI, afterL_cons, afterL_nil, trip_windows]
  after_results
  all_goals (try simp only [val5_main_while0b_v39, val5_main_while0b_v67, val5_main_while0b_v60, val5_main_v2_0, val5_main_v2_1, val5_main_v2_2, val5_main_v2_3, val5_main_v2_4]) <;> rfl

/-- The loop's carried buffers. -/
abbrev carriedRefs : List (Ref sig .tc) := [main_v2_0, main_v2_1, main_v2_2, main_v2_3, main_v2_4]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v40_congr {V0 V0' : Valuation τ sig (Elt F)} (h : Agree V0 V0') : res_main_while0b_v40 V0 = res_main_while0b_v40 V0' := by
  unfold res_main_while0b_v40
  rw [h main_v2_2 (by decide)]
set_option maxRecDepth 8192 in
theorem res_main_while0b_v46_congr {V0 V0' : Valuation τ sig (Elt F)} (h : Agree V0 V0') : res_main_while0b_v46 V0 = res_main_while0b_v46 V0' := by
  unfold res_main_while0b_v46
  rw [res_main_while0b_v40_congr h, h main_v2_3 (by decide)]
set_option maxRecDepth 8192 in
theorem res_main_while0b_v57_congr {V0 V0' : Valuation τ sig (Elt F)} (h : Agree V0 V0') : res_main_while0b_v57 V0 = res_main_while0b_v57 V0' := by
  unfold res_main_while0b_v57
  rw [res_main_while0b_v46_congr h, h main_v2_0 (by decide)]
set_option maxRecDepth 8192 in
theorem res_main_while0b_v60_congr {V0 V0' : Valuation τ sig (Elt F)} (h : Agree V0 V0') : res_main_while0b_v60 V0 = res_main_while0b_v60 V0' := by
  unfold res_main_while0b_v60
  rw [res_main_while0b_v57_congr h, h main_v2_4 (by decide)]
set_option maxRecDepth 8192 in
theorem res_main_while0b_call0_v0_congr {V0 V0' : Valuation τ sig (Elt F)} (h : Agree V0 V0') : res_main_while0b_call0_v0 V0 = res_main_while0b_call0_v0 V0' := by
  unfold res_main_while0b_call0_v0
  rfl
set_option maxRecDepth 8192 in
theorem res_main_while0b_call0_cst_congr {V0 V0' : Valuation τ sig (Elt F)} (h : Agree V0 V0') : res_main_while0b_call0_cst V0 = res_main_while0b_call0_cst V0' := by
  unfold res_main_while0b_call0_cst
  rfl
set_option maxRecDepth 8192 in
theorem res_main_while0b_call0_c_congr {V0 V0' : Valuation τ sig (Elt F)} (h : Agree V0 V0') : res_main_while0b_call0_c V0 = res_main_while0b_call0_c V0' := by
  unfold res_main_while0b_call0_c
  rfl

set_option maxRecDepth 8192 in
/-- `main_v2_1` after one trip, of the contents before it. -/
def step_main_v2_1 (V0 : Valuation τ sig (Elt F)) : (Proc.devRef .tc main_v2_1 : DevRef τ sig).ty.Contents (Elt F) :=
  id (addi (V0 (Proc.devRef .tc main_v2_1)) (constantI S_ 32 1#32))
set_option maxRecDepth 8192 in
theorem step_main_v2_1_congr {V0 V0' : Valuation τ sig (Elt F)} (h : Agree V0 V0') : step_main_v2_1 V0 = step_main_v2_1 V0' := by
  unfold step_main_v2_1
  rw [h main_v2_1 (by decide)]
set_option maxRecDepth 8192 in
/-- `main_v2_2` after one trip, of the contents before it. -/
def step_main_v2_2 (V0 : Valuation τ sig (Elt F)) : (Proc.devRef .tc main_v2_2 : DevRef τ sig).ty.Contents (Elt F) :=
  id (addi (V0 (Proc.devRef .tc main_v2_2)) (constantI S_ 32 1#32))
set_option maxRecDepth 8192 in
theorem step_main_v2_2_congr {V0 V0' : Valuation τ sig (Elt F)} (h : Agree V0 V0') : step_main_v2_2 V0 = step_main_v2_2 V0' := by
  unfold step_main_v2_2
  rw [h main_v2_2 (by decide)]
set_option maxRecDepth 8192 in
/-- `main_v2_3` after one trip, of the contents before it. -/
def step_main_v2_3 (V0 : Valuation τ sig (Elt F)) : (Proc.devRef .tc main_v2_3 : DevRef τ sig).ty.Contents (Elt F) :=
  id (Host.scatter scatter_S4096_S1_S__n_0_0_0 (fun _ b => b) (V0 (Proc.devRef .tc main_v2_3)) (broadcastInDim S1 ![] bcast_S_S1 (id (select (cmpi .slt (V0 (Proc.devRef .tc main_v2_2)) (constantI S_ 32 0#32)) (addi (V0 (Proc.devRef .tc main_v2_2)) (constantI S_ 32 4096#32)) (V0 (Proc.devRef .tc main_v2_2))))) (fun j => (Host.argReduce reducer_argmax_f32_i32 (res_main_while0b_v60 V0) (res_main_while0b_call0_v0 V0) (res_main_while0b_call0_cst V0) (res_main_while0b_call0_c V0) reducesTo_S16384_S_d0 h_S_ j).2))
set_option maxRecDepth 8192 in
theorem step_main_v2_3_congr {V0 V0' : Valuation τ sig (Elt F)} (h : Agree V0 V0') : step_main_v2_3 V0 = step_main_v2_3 V0' := by
  unfold step_main_v2_3
  rw [res_main_while0b_v60_congr h, res_main_while0b_call0_v0_congr h, res_main_while0b_call0_cst_congr h, res_main_while0b_call0_c_congr h, h main_v2_3 (by decide), h main_v2_2 (by decide)]
set_option maxRecDepth 8192 in
/-- `main_v2_4` after one trip, of the contents before it. -/
def step_main_v2_4 (V0 : Valuation τ sig (Elt F)) : (Proc.devRef .tc main_v2_4 : DevRef τ sig).ty.Contents (Elt F) :=
  id (res_main_while0b_v60 V0)
set_option maxRecDepth 8192 in
theorem step_main_v2_4_congr {V0 V0' : Valuation τ sig (Elt F)} (h : Agree V0 V0') : step_main_v2_4 V0 = step_main_v2_4 V0' := by
  unfold step_main_v2_4
  rw [res_main_while0b_v60_congr h]

/-- ONE TRIP on the carried buffers: the buffers the body writes step, everything else is as it was. -/
def STEP (V0 : Valuation τ sig (Elt F)) : Valuation τ sig (Elt F) :=
  Function.update (Function.update (Function.update (Function.update (V0) (Proc.devRef .tc main_v2_1) (step_main_v2_1 V0)) (Proc.devRef .tc main_v2_2) (step_main_v2_2 V0)) (Proc.devRef .tc main_v2_3) (step_main_v2_3 V0)) (Proc.devRef .tc main_v2_4) (step_main_v2_4 V0)

theorem STEP_main_v2_0 (V0 : Valuation τ sig (Elt F)) : STEP V0 (Proc.devRef .tc main_v2_0) = V0 (Proc.devRef .tc main_v2_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v2_1 (V0 : Valuation τ sig (Elt F)) : STEP V0 (Proc.devRef .tc main_v2_1) = step_main_v2_1 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v2_2 (V0 : Valuation τ sig (Elt F)) : STEP V0 (Proc.devRef .tc main_v2_2) = step_main_v2_2 V0 := by
  unfold STEP; rw [Function.update_of_ne (devRef_ne_of_ne (by decide))]; rw [Function.update_of_ne (devRef_ne_of_ne (by decide))]; rw [Function.update_self]
theorem STEP_main_v2_3 (V0 : Valuation τ sig (Elt F)) : STEP V0 (Proc.devRef .tc main_v2_3) = step_main_v2_3 V0 := by
  unfold STEP; rw [Function.update_of_ne (devRef_ne_of_ne (by decide))]; rw [Function.update_self]
theorem STEP_main_v2_4 (V0 : Valuation τ sig (Elt F)) : STEP V0 (Proc.devRef .tc main_v2_4) = step_main_v2_4 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v2_0 (after condOps X)).trans ((hc main_v2_0 (by decide)).trans (STEP_main_v2_0 X).symm)
  · exact (trip_main_v2_1 (after condOps X)).trans ((step_main_v2_1_congr hc).trans (STEP_main_v2_1 X).symm)
  · exact (trip_main_v2_2 (after condOps X)).trans ((step_main_v2_2_congr hc).trans (STEP_main_v2_2 X).symm)
  · exact (trip_main_v2_3 (after condOps X)).trans ((step_main_v2_3_congr hc).trans (STEP_main_v2_3 X).symm)
  · exact (trip_main_v2_4 (after condOps X)).trans ((step_main_v2_4_congr hc).trans (STEP_main_v2_4 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v2_0, STEP_main_v2_0]; exact h main_v2_0 (by decide)
  · rw [STEP_main_v2_1, STEP_main_v2_1]; exact step_main_v2_1_congr h
  · rw [STEP_main_v2_2, STEP_main_v2_2]; exact step_main_v2_2_congr h
  · rw [STEP_main_v2_3, STEP_main_v2_3]; exact step_main_v2_3_congr h
  · rw [STEP_main_v2_4, STEP_main_v2_4]; exact step_main_v2_4_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

theorem keep_main_arg0_hostOps0 (V : Valuation τ sig (Elt F)) : after hostOps0 V (Proc.devRef .tc main_arg0) = V (Proc.devRef .tc main_arg0) :=
  after_of_writes_sub hostOps0 V hostOps0_writes (by decide +kernel)
theorem keep_main_arg0_condOps (V : Valuation τ sig (Elt F)) : after condOps V (Proc.devRef .tc main_arg0) = V (Proc.devRef .tc main_arg0) :=
  after_of_writes_sub condOps V condOps_writes (by decide +kernel)
theorem keep_main_arg0_while0Ops0 (V : Valuation τ sig (Elt F)) : after while0Ops0 V (Proc.devRef .tc main_arg0) = V (Proc.devRef .tc main_arg0) :=
  after_of_writes_sub while0Ops0 V while0Ops0_writes (by decide +kernel)
theorem keep_main_arg0_while0Ops0_1 (V : Valuation τ sig (Elt F)) : after while0Ops0_1 V (Proc.devRef .tc main_arg0) = V (Proc.devRef .tc main_arg0) :=
  after_of_writes_sub while0Ops0_1 V while0Ops0_1_writes (by decide +kernel)
theorem keep_main_arg0_while0Ops0_2 (V : Valuation τ sig (Elt F)) : after while0Ops0_2 V (Proc.devRef .tc main_arg0) = V (Proc.devRef .tc main_arg0) :=
  after_of_writes_sub while0Ops0_2 V while0Ops0_2_writes (by decide +kernel)
theorem keep_main_arg0_hostOps0_1 (V : Valuation τ sig (Elt F)) : after hostOps0_1 V (Proc.devRef .tc main_arg0) = V (Proc.devRef .tc main_arg0) :=
  after_of_writes_sub hostOps0_1 V hostOps0_1_writes (by decide +kernel)
theorem keep_main_arg0_hostOps0_2 (V : Valuation τ sig (Elt F)) : after hostOps0_2 V (Proc.devRef .tc main_arg0) = V (Proc.devRef .tc main_arg0) :=
  after_of_writes_sub hostOps0_2 V hostOps0_2_writes (by decide +kernel)
theorem keep_main_arg0_hostOps0_3 (V : Valuation τ sig (Elt F)) : after hostOps0_3 V (Proc.devRef .tc main_arg0) = V (Proc.devRef .tc main_arg0) :=
  after_of_writes_sub hostOps0_3 V hostOps0_3_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0]
  | k + 1 => by
    rw [show atK m (k + 1) c = afterL bodyI (after condOps (atK m k c)) from rfl]
    simp only [afterL_cons, afterL_nil]
    rw [keep_main_arg0_while0Ops0_2, keep_main_arg0_while0Ops0_1, keep_main_arg0_while0Ops0, keep_main_arg0_condOps, atK_main_arg0 c k]

/-! ## After the loop -/

/-- The operations after the loop do not write `main_arg0`. -/
theorem post_keeps_main_arg0 (V0 : Valuation τ sig (Elt F)) : afterL postI V0 (Proc.devRef .tc main_arg0) = V0 (Proc.devRef .tc main_arg0) := by
  simp only [postI, afterL_cons, afterL_nil]
  rw [keep_main_arg0_hostOps0_3, keep_main_arg0_hostOps0_2, keep_main_arg0_hostOps0_1]
/-- `STEP` iterated on the loop's entry leaves the argument `main_arg0` as the launch has it. -/
theorem iter_main_arg0 (c : Dev nD) : ∀ k, (STEP^[k] (entryContents preI m c)) (Proc.devRef .tc main_arg0) = m ((c.tc : Thread nD τ).loc main_arg0)
  | 0 => by rw [Function.iterate_zero, id_eq, ← atTrip_zero condOps bodyI (entryContents preI m)]; exact atK_main_arg0 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg0 c k
set_option maxRecDepth 8192 in
/-- `main_v9`, which the operations after the loop make, of the contents they start from. -/
def out_main_v9 (V0 : Valuation τ sig (Elt F)) : (Proc.devRef .tc main_v9 : DevRef τ sig).ty.Contents (Elt F) :=
  Host.gather gather_S16384x3_S4096x1_S4096x3_1_0_n_n_0_1_13 (V0 (Proc.devRef .tc main_arg0)) (broadcastInDim S4096x1 ![0] bcast_S4096_S4096x1_0 (select (cmpi .slt (V0 (Proc.devRef .tc main_v2_3)) (broadcastInDim S4096 ![] bcast_S_S4096 (constantI S_ 32 0#32))) (addi (V0 (Proc.devRef .tc main_v2_3)) (broadcastInDim S4096 ![] bcast_S_S4096 (constantI S_ 32 16384#32))) (V0 (Proc.devRef .tc main_v2_3))))
set_option maxRecDepth 8192 in
set_option maxHeartbeats 2000000 in
theorem post_main_v9 (V0 : Valuation τ sig (Elt F)) : afterL postI V0 (no_index (Proc.devRef .tc main_v9)) = out_main_v9 V0 := by
  unfold out_main_v9
  simp only [postI, afterL_cons, afterL_nil, hostOps0_1, hostOps0_2, hostOps0_3]
  after_results_entrywise []
set_option maxRecDepth 8192 in
theorem out_main_v9_congr {V0 V0' : Valuation τ sig (Elt F)} (h : Agree V0 V0') (h_main_arg0 : V0 (Proc.devRef .tc main_arg0) = V0' (Proc.devRef .tc main_arg0)) : out_main_v9 V0 = out_main_v9 V0' := by
  unfold out_main_v9
  rw [h_main_arg0, h main_v2_3 (by decide)]
set_option maxRecDepth 8192 in
/-- `main_v38`, which the operations after the loop make, of the contents they start from. -/
def out_main_v38 (V0 : Valuation τ sig (Elt F)) : (Proc.devRef .tc main_v38 : DevRef τ sig).ty.Contents (Elt F) :=
  Host.divf (Host.exp (subf (id (select (cmpf .olt (subf (addf (broadcastInDim S16384x4096 ![0, 1] bcast_S16384x1_S16384x4096_0_1 (broadcastInDim S16384x1 ![0] bcast_S16384_S16384x1_0 (Host.reduceAdd (mulf (V0 (Proc.devRef .tc main_arg0)) (V0 (Proc.devRef .tc main_arg0))) (constant S_ .f32 0x00000000#32) reducesTo_S16384x3_S16384_d1 h_S_))) (broadcastInDim S16384x4096 ![0, 1] bcast_S1x4096_S16384x4096_0_1 (broadcastInDim S1x4096 ![1] bcast_S4096_S1x4096_1 (Host.reduceAdd (mulf (Host.gather gather_S16384x3_S4096x1_S4096x3_1_0_n_n_0_1_13 (V0 (Proc.devRef .tc main_arg0)) (broadcastInDim S4096x1 ![0] bcast_S4096_S4096x1_0 (select (cmpi .slt (V0 (Proc.devRef .tc main_v2_3)) (broadcastInDim S4096 ![] bcast_S_S4096 (constantI S_ 32 0#32))) (addi (V0 (Proc.devRef .tc main_v2_3)) (broadcastInDim S4096 ![] bcast_S_S4096 (constantI S_ 32 16384#32))) (V0 (Proc.devRef .tc main_v2_3))))) (Host.gather gather_S16384x3_S4096x1_S4096x3_1_0_n_n_0_1_13 (V0 (Proc.devRef .tc main_arg0)) (broadcastInDim S4096x1 ![0] bcast_S4096_S4096x1_0 (select (cmpi .slt (V0 (Proc.devRef .tc main_v2_3)) (broadcastInDim S4096 ![] bcast_S_S4096 (constantI S_ 32 0#32))) (addi (V0 (Proc.devRef .tc main_v2_3)) (broadcastInDim S4096 ![] bcast_S_S4096 (constantI S_ 32 16384#32))) (V0 (Proc.devRef .tc main_v2_3)))))) (constant S_ .f32 0x00000000#32) reducesTo_S4096x3_S4096_d1 h_S_)))) (mulf (broadcastInDim S16384x4096 ![] bcast_S_S16384x4096 (constant S_ .f32 0x40000000#32)) (Host.dotGeneral dot_S16384x3_S3x4096_S16384x4096_1_0_0_1_n_n none (V0 (Proc.devRef .tc main_arg0)) (transpose S3x4096 [1, 0] (Host.gather gather_S16384x3_S4096x1_S4096x3_1_0_n_n_0_1_13 (V0 (Proc.devRef .tc main_arg0)) (broadcastInDim S4096x1 ![0] bcast_S4096_S4096x1_0 (select (cmpi .slt (V0 (Proc.devRef .tc main_v2_3)) (broadcastInDim S4096 ![] bcast_S_S4096 (constantI S_ 32 0#32))) (addi (V0 (Proc.devRef .tc main_v2_3)) (broadcastInDim S4096 ![] bcast_S_S4096 (constantI S_ 32 16384#32))) (V0 (Proc.devRef .tc main_v2_3))))) transposes_S4096x3_S3x4096_1_0)))) (broadcastInDim S16384x4096 ![] bcast_S_S16384x4096 (constant S_ .f32 0x3D23D70A#32))) (broadcastInDim S16384x4096 ![] bcast_S_S16384x4096 (constant S_ .f32 0x3F800000#32)) (broadcastInDim S16384x4096 ![] bcast_S_S16384x4096 (constant S_ .f32 0x00000000#32)))) (broadcastInDim S16384x4096 ![0, 1] bcast_S16384x1_S16384x4096_0_1 (broadcastInDim S16384x1 ![0] bcast_S16384_S16384x1_0 (maximumf (broadcastInDim S16384 ![] bcast_S_S16384 (constant S_ .f32 0xFF800000#32)) (Host.reduce FloatOps.maximumf (id (select (cmpf .olt (subf (addf (broadcastInDim S16384x4096 ![0, 1] bcast_S16384x1_S16384x4096_0_1 (broadcastInDim S16384x1 ![0] bcast_S16384_S16384x1_0 (Host.reduceAdd (mulf (V0 (Proc.devRef .tc main_arg0)) (V0 (Proc.devRef .tc main_arg0))) (constant S_ .f32 0x00000000#32) reducesTo_S16384x3_S16384_d1 h_S_))) (broadcastInDim S16384x4096 ![0, 1] bcast_S1x4096_S16384x4096_0_1 (broadcastInDim S1x4096 ![1] bcast_S4096_S1x4096_1 (Host.reduceAdd (mulf (Host.gather gather_S16384x3_S4096x1_S4096x3_1_0_n_n_0_1_13 (V0 (Proc.devRef .tc main_arg0)) (broadcastInDim S4096x1 ![0] bcast_S4096_S4096x1_0 (select (cmpi .slt (V0 (Proc.devRef .tc main_v2_3)) (broadcastInDim S4096 ![] bcast_S_S4096 (constantI S_ 32 0#32))) (addi (V0 (Proc.devRef .tc main_v2_3)) (broadcastInDim S4096 ![] bcast_S_S4096 (constantI S_ 32 16384#32))) (V0 (Proc.devRef .tc main_v2_3))))) (Host.gather gather_S16384x3_S4096x1_S4096x3_1_0_n_n_0_1_13 (V0 (Proc.devRef .tc main_arg0)) (broadcastInDim S4096x1 ![0] bcast_S4096_S4096x1_0 (select (cmpi .slt (V0 (Proc.devRef .tc main_v2_3)) (broadcastInDim S4096 ![] bcast_S_S4096 (constantI S_ 32 0#32))) (addi (V0 (Proc.devRef .tc main_v2_3)) (broadcastInDim S4096 ![] bcast_S_S4096 (constantI S_ 32 16384#32))) (V0 (Proc.devRef .tc main_v2_3)))))) (constant S_ .f32 0x00000000#32) reducesTo_S4096x3_S4096_d1 h_S_)))) (mulf (broadcastInDim S16384x4096 ![] bcast_S_S16384x4096 (constant S_ .f32 0x40000000#32)) (Host.dotGeneral dot_S16384x3_S3x4096_S16384x4096_1_0_0_1_n_n none (V0 (Proc.devRef .tc main_arg0)) (transpose S3x4096 [1, 0] (Host.gather gather_S16384x3_S4096x1_S4096x3_1_0_n_n_0_1_13 (V0 (Proc.devRef .tc main_arg0)) (broadcastInDim S4096x1 ![0] bcast_S4096_S4096x1_0 (select (cmpi .slt (V0 (Proc.devRef .tc main_v2_3)) (broadcastInDim S4096 ![] bcast_S_S4096 (constantI S_ 32 0#32))) (addi (V0 (Proc.devRef .tc main_v2_3)) (broadcastInDim S4096 ![] bcast_S_S4096 (constantI S_ 32 16384#32))) (V0 (Proc.devRef .tc main_v2_3))))) transposes_S4096x3_S3x4096_1_0)))) (broadcastInDim S16384x4096 ![] bcast_S_S16384x4096 (constant S_ .f32 0x3D23D70A#32))) (broadcastInDim S16384x4096 ![] bcast_S_S16384x4096 (constant S_ .f32 0x3F800000#32)) (broadcastInDim S16384x4096 ![] bcast_S_S16384x4096 (constant S_ .f32 0x00000000#32)))) (constant S_ .f32 0xFF800000#32) reducesTo_S16384x4096_S16384_d1 h_S_)))))) (broadcastInDim S16384x4096 ![0, 1] bcast_S16384x1_S16384x4096_0_1 (broadcastInDim S16384x1 ![0] bcast_S16384_S16384x1_0 (Host.reduceAdd (Host.exp (subf (id (select (cmpf .olt (subf (addf (broadcastInDim S16384x4096 ![0, 1] bcast_S16384x1_S16384x4096_0_1 (broadcastInDim S16384x1 ![0] bcast_S16384_S16384x1_0 (Host.reduceAdd (mulf (V0 (Proc.devRef .tc main_arg0)) (V0 (Proc.devRef .tc main_arg0))) (constant S_ .f32 0x00000000#32) reducesTo_S16384x3_S16384_d1 h_S_))) (broadcastInDim S16384x4096 ![0, 1] bcast_S1x4096_S16384x4096_0_1 (broadcastInDim S1x4096 ![1] bcast_S4096_S1x4096_1 (Host.reduceAdd (mulf (Host.gather gather_S16384x3_S4096x1_S4096x3_1_0_n_n_0_1_13 (V0 (Proc.devRef .tc main_arg0)) (broadcastInDim S4096x1 ![0] bcast_S4096_S4096x1_0 (select (cmpi .slt (V0 (Proc.devRef .tc main_v2_3)) (broadcastInDim S4096 ![] bcast_S_S4096 (constantI S_ 32 0#32))) (addi (V0 (Proc.devRef .tc main_v2_3)) (broadcastInDim S4096 ![] bcast_S_S4096 (constantI S_ 32 16384#32))) (V0 (Proc.devRef .tc main_v2_3))))) (Host.gather gather_S16384x3_S4096x1_S4096x3_1_0_n_n_0_1_13 (V0 (Proc.devRef .tc main_arg0)) (broadcastInDim S4096x1 ![0] bcast_S4096_S4096x1_0 (select (cmpi .slt (V0 (Proc.devRef .tc main_v2_3)) (broadcastInDim S4096 ![] bcast_S_S4096 (constantI S_ 32 0#32))) (addi (V0 (Proc.devRef .tc main_v2_3)) (broadcastInDim S4096 ![] bcast_S_S4096 (constantI S_ 32 16384#32))) (V0 (Proc.devRef .tc main_v2_3)))))) (constant S_ .f32 0x00000000#32) reducesTo_S4096x3_S4096_d1 h_S_)))) (mulf (broadcastInDim S16384x4096 ![] bcast_S_S16384x4096 (constant S_ .f32 0x40000000#32)) (Host.dotGeneral dot_S16384x3_S3x4096_S16384x4096_1_0_0_1_n_n none (V0 (Proc.devRef .tc main_arg0)) (transpose S3x4096 [1, 0] (Host.gather gather_S16384x3_S4096x1_S4096x3_1_0_n_n_0_1_13 (V0 (Proc.devRef .tc main_arg0)) (broadcastInDim S4096x1 ![0] bcast_S4096_S4096x1_0 (select (cmpi .slt (V0 (Proc.devRef .tc main_v2_3)) (broadcastInDim S4096 ![] bcast_S_S4096 (constantI S_ 32 0#32))) (addi (V0 (Proc.devRef .tc main_v2_3)) (broadcastInDim S4096 ![] bcast_S_S4096 (constantI S_ 32 16384#32))) (V0 (Proc.devRef .tc main_v2_3))))) transposes_S4096x3_S3x4096_1_0)))) (broadcastInDim S16384x4096 ![] bcast_S_S16384x4096 (constant S_ .f32 0x3D23D70A#32))) (broadcastInDim S16384x4096 ![] bcast_S_S16384x4096 (constant S_ .f32 0x3F800000#32)) (broadcastInDim S16384x4096 ![] bcast_S_S16384x4096 (constant S_ .f32 0x00000000#32)))) (broadcastInDim S16384x4096 ![0, 1] bcast_S16384x1_S16384x4096_0_1 (broadcastInDim S16384x1 ![0] bcast_S16384_S16384x1_0 (maximumf (broadcastInDim S16384 ![] bcast_S_S16384 (constant S_ .f32 0xFF800000#32)) (Host.reduce FloatOps.maximumf (id (select (cmpf .olt (subf (addf (broadcastInDim S16384x4096 ![0, 1] bcast_S16384x1_S16384x4096_0_1 (broadcastInDim S16384x1 ![0] bcast_S16384_S16384x1_0 (Host.reduceAdd (mulf (V0 (Proc.devRef .tc main_arg0)) (V0 (Proc.devRef .tc main_arg0))) (constant S_ .f32 0x00000000#32) reducesTo_S16384x3_S16384_d1 h_S_))) (broadcastInDim S16384x4096 ![0, 1] bcast_S1x4096_S16384x4096_0_1 (broadcastInDim S1x4096 ![1] bcast_S4096_S1x4096_1 (Host.reduceAdd (mulf (Host.gather gather_S16384x3_S4096x1_S4096x3_1_0_n_n_0_1_13 (V0 (Proc.devRef .tc main_arg0)) (broadcastInDim S4096x1 ![0] bcast_S4096_S4096x1_0 (select (cmpi .slt (V0 (Proc.devRef .tc main_v2_3)) (broadcastInDim S4096 ![] bcast_S_S4096 (constantI S_ 32 0#32))) (addi (V0 (Proc.devRef .tc main_v2_3)) (broadcastInDim S4096 ![] bcast_S_S4096 (constantI S_ 32 16384#32))) (V0 (Proc.devRef .tc main_v2_3))))) (Host.gather gather_S16384x3_S4096x1_S4096x3_1_0_n_n_0_1_13 (V0 (Proc.devRef .tc main_arg0)) (broadcastInDim S4096x1 ![0] bcast_S4096_S4096x1_0 (select (cmpi .slt (V0 (Proc.devRef .tc main_v2_3)) (broadcastInDim S4096 ![] bcast_S_S4096 (constantI S_ 32 0#32))) (addi (V0 (Proc.devRef .tc main_v2_3)) (broadcastInDim S4096 ![] bcast_S_S4096 (constantI S_ 32 16384#32))) (V0 (Proc.devRef .tc main_v2_3)))))) (constant S_ .f32 0x00000000#32) reducesTo_S4096x3_S4096_d1 h_S_)))) (mulf (broadcastInDim S16384x4096 ![] bcast_S_S16384x4096 (constant S_ .f32 0x40000000#32)) (Host.dotGeneral dot_S16384x3_S3x4096_S16384x4096_1_0_0_1_n_n none (V0 (Proc.devRef .tc main_arg0)) (transpose S3x4096 [1, 0] (Host.gather gather_S16384x3_S4096x1_S4096x3_1_0_n_n_0_1_13 (V0 (Proc.devRef .tc main_arg0)) (broadcastInDim S4096x1 ![0] bcast_S4096_S4096x1_0 (select (cmpi .slt (V0 (Proc.devRef .tc main_v2_3)) (broadcastInDim S4096 ![] bcast_S_S4096 (constantI S_ 32 0#32))) (addi (V0 (Proc.devRef .tc main_v2_3)) (broadcastInDim S4096 ![] bcast_S_S4096 (constantI S_ 32 16384#32))) (V0 (Proc.devRef .tc main_v2_3))))) transposes_S4096x3_S3x4096_1_0)))) (broadcastInDim S16384x4096 ![] bcast_S_S16384x4096 (constant S_ .f32 0x3D23D70A#32))) (broadcastInDim S16384x4096 ![] bcast_S_S16384x4096 (constant S_ .f32 0x3F800000#32)) (broadcastInDim S16384x4096 ![] bcast_S_S16384x4096 (constant S_ .f32 0x00000000#32)))) (constant S_ .f32 0xFF800000#32) reducesTo_S16384x4096_S16384_d1 h_S_)))))) (constant S_ .f32 0x00000000#32) reducesTo_S16384x4096_S16384_d1 h_S_)))
set_option maxRecDepth 8192 in
set_option maxHeartbeats 2000000 in
theorem post_main_v38 (V0 : Valuation τ sig (Elt F)) : afterL postI V0 (no_index (Proc.devRef .tc main_v38)) = out_main_v38 V0 := by
  unfold out_main_v38
  simp only [postI, afterL_cons, afterL_nil, hostOps0_1, hostOps0_2, hostOps0_3]
  after_results_entrywise []
set_option maxRecDepth 8192 in
theorem out_main_v38_congr {V0 V0' : Valuation τ sig (Elt F)} (h : Agree V0 V0') (h_main_arg0 : V0 (Proc.devRef .tc main_arg0) = V0' (Proc.devRef .tc main_arg0)) : out_main_v38 V0 = out_main_v38 V0' := by
  unfold out_main_v38
  rw [h_main_arg0, h main_v2_3 (by decide)]
/-- THE RUN: on every device, for any float values, from any memory with zero counters, every weakly fair execution
    of @main terminates with each result at its component of `STEP` iterated 4095 times on the loop's entry (`step_‹buffer›`
    says what one trip makes of each carried buffer), or, for a result the operations after the loop make, at `out_‹result›` of that, and every argument unchanged. -/
theorem run : θ_run (defs (F := F)) (onTc (τ := τ) (main (F := F))) ⟨m, fun _ => 0, ρ⟩ fun r => ∀ c : Dev nD,
      r.2.mem ((c.tc : Thread nD τ).loc main_v9) = out_main_v9 (STEP^[4095] (entryContents preI m c))
      ∧ r.2.mem ((c.tc : Thread nD τ).loc main_v38) = out_main_v38 (STEP^[4095] (entryContents preI m c))
      ∧ r.2.mem ((c.tc : Thread nD τ).loc main_arg0) = m ((c.tc : Thread nD τ).loc main_arg0) :=
  (θ_run defs _ _).mono (fun _ h c => ⟨(h c main_v9 rfl).trans ((post_main_v9 _).trans (out_main_v9_congr (fun j hj => (cond_keeps _ j hj).trans (atK_agree m c 4095 j hj)) ((keep_main_arg0_condOps _).trans ((atK_main_arg0 m c 4095).trans (iter_main_arg0 m c 4095).symm)))),
      (h c main_v38 rfl).trans ((post_main_v38 _).trans (out_main_v38_congr (fun j hj => (cond_keeps _ j hj).trans (atK_agree m c 4095 j hj)) ((keep_main_arg0_condOps _).trans ((atK_main_arg0 m c 4095).trans (iter_main_arg0 m c 4095).symm)))),
      (h c main_arg0 rfl).trans ((post_keeps_main_arg0 _).trans ((keep_main_arg0_condOps _).trans (atK_main_arg0 m c 4095)))⟩) (run_fold m ρ)

end Cert.ReferenceIdeal.Value

end
-- ==== Proof.RefOps.lean ====
/-
  The reference's index operations over the extended reals, each read at an index: the first greatest entry of an array,
  the write of one entry, the two slices at a start, and the gather of rows.
-/
module

public import proofs.«01_k».proof.Proof.RefRun
public import proofs.«01_k».proof.Proof.Soft
public import proofs.«01_k».proof.Proof.Spec
public import Idealize.ShloMosaic.Lib.Routing.Ops
public import Idealize.ShloMosaic.Lib.Routing.OpsPair
public import Idealize.ShloMosaic.Lib.DynamicIndex
public import Idealize.ShloMosaic.Lib.Pipeline.Value

@[expose] public section

set_option maxRecDepth 16384

noncomputable section

namespace Cert.ReferenceIdeal.Ops

open Cert.ReferenceIdeal Cert.ReferenceIdeal.Gen Cert.Spec
open Idealize.ShloMosaic Idealize.ShloMosaic.TcCoe Idealize.ShloMosaic.ValueIdx

/-! ## The first greatest entry -/

theorem pick_eq (a b : Ideal .f32 × BitVec 32) :
    reducer_argmax_f32_i32 (F := Ideal) a b
      = if (b.1 : EReal) < a.1 then a else if (a.1 : EReal) = b.1 then (b.1, if a.2.slt b.2 then a.2 else b.2) else b := by
  obtain ⟨a1, a2⟩ := a
  obtain ⟨b1, b2⟩ := b
  have hc : ∀ p (x y : Ideal .f32), FloatOps.cmpf (F := Ideal) (φ := .f32) p x y = Ideal.cmp p x y := fun _ _ _ => rfl
  have h1 : Ideal.cmp .ogt a1 b1 = BitVec.ofBool (decide ((b1 : EReal) < a1)) := rfl
  have h2 : Ideal.cmp .une a1 a1 = 0#1 := by simp [Ideal.cmp]
  have h3 : Ideal.cmp .oeq a1 b1 = BitVec.ofBool (decide ((a1 : EReal) = b1)) := rfl
  unfold reducer_argmax_f32_i32
  simp only [hc, h1, h2, h3]
  by_cases p1 : (b1 : EReal) < a1
  · have p2 : ¬ (a1 : EReal) = b1 := p1.ne'
    simp [p1, p2, Scalar.select, IntOp.ori, IntOp.andi]
  · by_cases p2 : (a1 : EReal) = b1
    · by_cases p3 : a2.slt b2
      · simp [p1, p2, p3, Scalar.select, IntOp.ori, IntOp.andi, IntOp.cmpi]
      · simp [p1, p2, p3, Scalar.select, IntOp.ori, IntOp.andi, IntOp.cmpi]
    · simp [p1, p2, Scalar.select, IntOp.ori, IntOp.andi]

/-- What the fold over the first `k` entries holds. -/
def Holds (D : ℕ → EReal) (k : ℕ) (a : Ideal .f32 × BitVec 32) : Prop :=
  ∃ l : ℕ, a.2 = BitVec.ofNat 32 l ∧ (∀ p < k, D p ≤ a.1) ∧ (∀ p < k, D p = a.1 → l ≤ p)
    ∧ (0 < k → l < k ∧ D l = a.1) ∧ (k = 0 → l = 0 ∧ (a.1 : EReal) = ⊥)

theorem holds_fold (D : ℕ → EReal) : ∀ k, k < 2 ^ 31 →
    Holds D k (((List.range k).map fun i => ((D i, BitVec.ofNat 32 i) : Ideal .f32 × BitVec 32)).foldl reducer_argmax_f32_i32 ((⊥ : EReal), 0#32))
  | 0, _ => ⟨0, rfl, fun _ h => absurd h (Nat.not_lt_zero _), fun _ h => absurd h (Nat.not_lt_zero _), fun h => absurd h (lt_irrefl _), fun _ => ⟨rfl, rfl⟩⟩
  | k + 1, hk => by
    rw [List.range_succ, List.map_append, List.foldl_append]
    obtain ⟨l, h2, hle, hmin, hpos, hz⟩ := holds_fold D k (by omega)
    generalize (List.foldl _ _ ((List.range k).map _) : Ideal .f32 × BitVec 32) = a at h2 hle hmin hpos hz ⊢
    obtain ⟨v, w⟩ := a
    dsimp only at h2 hle hmin hpos hz
    subst h2
    simp only [List.map_cons, List.map_nil, List.foldl_cons, List.foldl_nil, pick_eq]
    split
    · next h =>
      have hk0 : 0 < k := Nat.pos_of_ne_zero fun e => absurd h (by rw [(hz e).2]; exact not_lt_bot)
      refine ⟨l, rfl, fun p hp => ?_, fun p hp e => ?_, fun _ => ⟨(hpos hk0).1.trans (Nat.lt_succ_self k), (hpos hk0).2⟩, fun e => by omega⟩
      · rcases Nat.lt_succ_iff_lt_or_eq.1 hp with hp | rfl
        · exact hle p hp
        · exact h.le
      · rcases Nat.lt_succ_iff_lt_or_eq.1 hp with hp | rfl
        · exact hmin p hp e
        · exact absurd e h.ne
    · next h =>
      split
      · next h' =>
        by_cases hk0 : k = 0
        · subst hk0
          obtain ⟨rfl, hv⟩ := hz rfl
          refine ⟨0, ?_, fun p hp => ?_, fun p hp e => Nat.zero_le _, fun _ => ⟨Nat.one_pos, rfl⟩, fun e => by omega⟩
          · simp
          · obtain rfl : p = 0 := by omega
            exact le_refl _
        · have hl := hpos (Nat.pos_of_ne_zero hk0)
          have hs : (BitVec.ofNat 32 l).slt (BitVec.ofNat 32 k) = true :=
            (StableHlo.Predicate.ofBool_eq_one_iff _).1 ((StableHlo.Predicate.slt_ofNat_iff l k (by omega) (by omega)).2 hl.1)
          refine ⟨l, by dsimp only; rw [if_pos hs], fun p hp => ?_, fun p hp e => ?_, fun _ => ⟨by omega, hl.2.trans h'⟩, fun e => by omega⟩
          · rcases Nat.lt_succ_iff_lt_or_eq.1 hp with hp | rfl
            · exact (hle p hp).trans h'.le
            · exact le_refl _
          · rcases Nat.lt_succ_iff_lt_or_eq.1 hp with hp | rfl
            · exact hmin p hp (e.trans h'.symm)
            · exact hl.1.le
      · next h' =>
        have hlt : v < D k := lt_of_le_of_ne (not_lt.1 h) h'
        refine ⟨k, rfl, fun p hp => ?_, fun p hp e => ?_, fun _ => ⟨Nat.lt_succ_self k, rfl⟩, fun e => by omega⟩
        · rcases Nat.lt_succ_iff_lt_or_eq.1 hp with hp | rfl
          · exact (hle p hp).trans hlt.le
          · exact le_refl _
        · rcases Nat.lt_succ_iff_lt_or_eq.1 hp with hp | rfl
          · exact absurd ((e.symm.le.trans (hle p hp))) (not_le.2 hlt)
          · exact le_refl _

/-- The array by position. -/
def byPos {N : ℕ} (D : (⟨1, ![N]⟩ : Shape).Idx → EReal) (i : ℕ) : EReal := if h : i < N then D (ix1 ⟨i, h⟩) else ⊥

theorem fiber_eq {N : ℕ} (D : (⟨1, ![N]⟩ : Shape).Idx → EReal) (h : (⟨1, ![N]⟩ : Shape).ReducesTo [0] S_) (j : S_.Idx) :
    Host.argReduceFiber (α := Ideal .f32) D (iotaInDim (⟨1, ![N]⟩ : Shape) 32 0) h j
      = (List.range N).map fun i => ((byPos D i, BitVec.ofNat 32 i) : Ideal .f32 × BitVec 32) := by
  unfold Host.argReduceFiber
  have hR : List.range N = (List.finRange (⟨1, ![N]⟩ : Shape).numel).map (fun n => n.val) :=
    (congrArg List.range (Routing.numel1 N).symm).trans List.map_coe_finRange_eq_range.symm
  rw [List.filter_eq_self.2 fun n _ => decide_eq_true (funext fun b => b.elim0), hR, List.map_map]
  refine List.map_congr_left fun n _ => ?_
  have hn : n.val < N := lt_of_lt_of_eq n.isLt (Routing.numel1 N)
  rw [Routing.symm1 n]
  refine Prod.ext ?_ rfl
  show D (ix1 (n.cast _)) = byPos D n.val
  rw [byPos, dif_pos hn]
  rfl

theorem argmax_eq (D : FVec Ideal S16384 .f32) (j : S_.Idx) :
    (Host.argReduce (F := Ideal) (φ := .f32) reducer_argmax_f32_i32 D (iotaInDim S16384 32 0) (constant S_ .f32 0xFF800000#32) (constantI S_ 32 0#32)
      reducesTo_S16384_S_d0 h_S_ j).2 = BitVec.ofNat 32 (arg fun p : Fin 16384 => (D (ix1 p) : EReal)).val := by
  rw [Ideal.argReduce_eq_reduce2, Host.reduce2_eq_foldl_fiber, fiber_eq D reducesTo_S16384_S_d0 j,
    show (constant (F := Ideal) S_ .f32 0xFF800000#32 (Shape.Idx.first h_S_) : EReal) = ⊥ from by
      show Ideal.ofBits .f32 0xFF800000#32 = ⊥
      simp [Ideal.ofBits, Ideal.ieee]]
  obtain ⟨l, h2, hle, hmin, hpos, -⟩ := holds_fold (byPos D) 16384 (by norm_num)
  refine h2.trans (congrArg (BitVec.ofNat 32) ?_)
  obtain ⟨hl, hv⟩ := hpos (by norm_num)
  have e : ∀ p : Fin 16384, byPos D p.val = D (ix1 p) := fun p => dif_pos p.isLt
  have hI : IsArg (fun p : Fin 16384 => (D (ix1 p) : EReal)) ⟨l, hl⟩ := by
    refine ⟨fun p => ?_, fun p hp => ?_⟩
    · dsimp only
      rw [← e p, ← e ⟨l, hl⟩]
      exact (hle p.val p.isLt).trans hv.ge
    · dsimp only at hp
      rw [← e p, ← e ⟨l, hl⟩] at hp
      exact hmin p.val p.isLt (hp.trans hv)
  exact congrArg Fin.val hI.eq_arg

/-! ## Reading and writing at one place -/

theorem write_eq (v : S4096.Idx → BitVec 32) (i : BitVec 32) (u : S_.Idx → BitVec 32) (n : ℕ) (hn : n < 4096) (hi : i = BitVec.ofNat 32 n) (k : Fin 4096) :
    Host.scatter scatter_S4096_S1_S__n_0_0_0 (fun _ b => b) v (fun _ : S1.Idx => i) u (ix1 k)
      = if k.val = n then u (Shape.Idx.first h_S_) else v (ix1 k) := by
  have hnum : S_.numel = 1 := by decide
  rw [Routing.scatter_at]
  have hr : ∀ q : S_.Idx, scatter_S4096_S1_S__n_0_0_0.resultIdx? q (fun _ : S1.Idx => i) = some (ix1 k) ↔ k.val = n := fun q => by
    rw [Routing.resultIdx?_eq_some]
    have hw : scatter_S4096_S1_S__n_0_0_0.window q (0 : Fin 1) = 0 := by
      unfold ScatterDims.window
      rw [dif_neg (by decide)]
    have hs : scatter_S4096_S1_S__n_0_0_0.start q (fun _ : S1.Idx => i) (0 : Fin 1) = (n : Int) := by
      unfold ScatterDims.start
      rw [dif_pos (by decide), hi]
      exact toInt_ofNat_of_lt (by omega)
    constructor
    · intro h
      have := h (0 : Fin 1)
      rw [hw, hs] at this
      have e : (n : Int) + ((0 : ℕ) : Int) = (k.val : Int) := this
      omega
    · intro h a
      obtain rfl : a = (0 : Fin 1) := Subsingleton.elim _ _
      rw [hw, hs]
      show (n : Int) + ((0 : ℕ) : Int) = (k.val : Int)
      omega
  have hu : ∀ q : S_.Idx, u q = u (Shape.Idx.first h_S_) := fun q => congrArg u (funext fun b => b.elim0)
  have hf : ∀ (m : ℕ) (_ : m = 1) (f : Fin m → S_.Idx) (z : BitVec 32),
      (List.finRange m).foldl (fun a q => if scatter_S4096_S1_S__n_0_0_0.resultIdx? (f q) (fun _ : S1.Idx => i) = some (ix1 k) then u (f q) else a) z
        = if k.val = n then u (Shape.Idx.first h_S_) else z := fun m hm f z => by
    subst hm
    simp only [hr, hu]
    rfl
  exact hf S_.numel hnum _ _

theorem write_eq' (v : S4096.Idx → BitVec 32) (w : S1.Idx → BitVec 32) (u : S_.Idx → BitVec 32) (n : ℕ) (hn : n < 4096) (hw : ∀ i, w i = BitVec.ofNat 32 n)
    (k : Fin 4096) :
    Host.scatter scatter_S4096_S1_S__n_0_0_0 (fun _ b => b) v w u (ix1 k) = if k.val = n then u (Shape.Idx.first h_S_) else v (ix1 k) := by
  obtain rfl : w = fun _ => BitVec.ofNat 32 n := funext hw
  exact write_eq v _ u n hn rfl k

theorem entry_eq (v : S4096.Idx → BitVec 32) (start : Fin 1 → Int) (n : ℕ) (hn : n < 4096) (hs : start 0 = n) (i : S_.Idx) :
    shapeCast S_ (Host.dynamicSlice S1 v start sliceFits_S4096_S1) shapeCasts_S1_S_ i = v (ix1 ⟨n, hn⟩) := by
  have hoff : S4096.Slices (fun _ => n) S1 := ⟨rfl, fun a => by
    obtain rfl : a = (0 : Fin 1) := Subsingleton.elim _ _
    show n + 1 ≤ 4096
    omega⟩
  rw [Host.dynamicSlice_eq_extractStridedSlice S1 v start (fun _ => n) sliceFits_S4096_S1 hoff fun a => by
    obtain rfl : a = (0 : Fin 1) := Subsingleton.elim _ _
    exact hs]
  refine (shapeCast_apply _ _ _ (ix1 (0 : Fin 1)) ?_).trans ?_
  · have z1 : (S1.rowMajor (ix1 (0 : Fin 1))).val = 0 := Nat.lt_one_iff.1 (lt_of_lt_of_eq (Fin.isLt _) (by decide))
    have z2 : (S_.rowMajor i).val = 0 := Nat.lt_one_iff.1 (lt_of_lt_of_eq (Fin.isLt _) (by decide))
    exact z1.trans z2.symm
  · refine extractStridedSlice_apply _ _ _ _ _ fun a => ?_
    obtain rfl : a = (0 : Fin 1) := Subsingleton.elim _ _
    rfl

theorem row_eq (v : S16384x3.Idx → EReal) (start : Fin 2 → Int) (n : Fin 16384) (hs0 : start 0 = n.val) (hs1 : start 1 = 0) (k : Fin 3) :
    shapeCast S3 (Host.dynamicSlice S1x3 v start sliceFits_S16384x3_S1x3) shapeCasts_S1x3_S3 (ix1 k) = v (ix2 n k) := by
  have hoff : S16384x3.Slices ![n.val, 0] S1x3 := ⟨rfl, fun a => by
    match a with
    | ⟨0, _⟩ => show n.val + 1 ≤ 16384; omega
    | ⟨1, _⟩ => show 0 + 3 ≤ 3; omega⟩
  rw [Host.dynamicSlice_eq_extractStridedSlice S1x3 v start ![n.val, 0] sliceFits_S16384x3_S1x3 hoff fun a => by
    match a with
    | ⟨0, _⟩ => exact hs0
    | ⟨1, _⟩ => exact hs1]
  refine (shapeCast_apply _ _ _ (ix2 (0 : Fin 1) k) ?_).trans ?_
  · rw [Shape.rowMajor_val_one, Shape.rowMajor_val_two]
    show 0 * 3 + k.val = k.val
    omega
  · refine extractStridedSlice_apply _ _ _ _ _ fun a => ?_
    match a with
    | ⟨0, _⟩ => rfl
    | ⟨1, _⟩ => exact (Nat.zero_add _).symm

/-- The rows at the words `w`, none of them negative or past the end. -/
theorem rows_eq (v : S16384x3.Idx → EReal) (w : S4096x1.Idx → BitVec 32) (f : Fin 4096 → Fin 16384) (hw : ∀ j, w (ix2 j 0) = BitVec.ofNat 32 (f j).val)
    (j : Fin 4096) (k : Fin 3) :
    Host.gather gather_S16384x3_S4096x1_S4096x3_1_0_n_n_0_1_13 v w (ix2 j k) = v (ix2 (f j) k) := by
  unfold Host.gather
  refine congrArg v ?_
  funext a
  refine Fin.ext ?_
  show gather_S16384x3_S4096x1_S4096x3_1_0_n_n_0_1_13.start (ix2 j k) w a + gather_S16384x3_S4096x1_S4096x3_1_0_n_n_0_1_13.batchCoord (ix2 j k) a
    + gather_S16384x3_S4096x1_S4096x3_1_0_n_n_0_1_13.offCoord (ix2 j k) a = _
  rw [GatherDims.batchCoord_eq_zero _ _ _ List.not_mem_nil]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (by decide)]
    unfold GatherDims.start
    rw [dif_pos (by decide)]
    have hsi : gather_S16384x3_S4096x1_S4096x3_1_0_n_n_0_1_13.siIdx (ix2 j k) ⟨List.idxOf (0 : Fin 2) gather_S16384x3_S4096x1_S4096x3_1_0_n_n_0_1_13.startIndexMap,
        List.idxOf_lt_length_iff.2 (by decide)⟩ = ix2 j 0 := by
      funext b; refine Fin.ext ?_
      match b with
      | ⟨0, _⟩ => rfl
      | ⟨1, _⟩ => rfl
    show min (w (gather_S16384x3_S4096x1_S4096x3_1_0_n_n_0_1_13.siIdx (ix2 j k) ⟨List.idxOf (0 : Fin 2) gather_S16384x3_S4096x1_S4096x3_1_0_n_n_0_1_13.startIndexMap,
        List.idxOf_lt_length_iff.2 (by decide)⟩)).toInt.toNat (16384 - 1) + 0 + 0 = (f j).val
    rw [hsi, hw, toInt_ofNat_of_lt (by have := (f j).isLt; omega), Int.toNat_natCast]
    have := (f j).isLt
    omega
  · unfold GatherDims.start
    rw [dif_neg (by decide)]
    unfold GatherDims.offCoord
    rw [dif_pos (by decide)]
    show 0 + 0 + k.val = k.val
    omega

end Cert.ReferenceIdeal.Ops

end
-- ==== Proof.RefLoop.lean ====
/-
  The reference's loop over the extended reals: after `k` trips the carried buffers hold the state of the farthest-point
  sampling after `k` picks and the rows picked so far.
-/
module

public import proofs.«01_k».proof.Proof.RefOps
public import Idealize.ShloMosaic.Lib.StableHlo.RunRead

@[expose] public section

set_option maxRecDepth 16384

noncomputable section

namespace Cert.ReferenceIdeal.Loop

open Cert.ReferenceIdeal Cert.ReferenceIdeal.Gen Cert.ReferenceIdeal.Value Cert.ReferenceIdeal.Ops Cert.Spec
open Idealize.ShloMosaic Idealize.ShloMosaic.TcCoe Idealize.ShloMosaic.ValueIdx Idealize.ShloMosaic.Tactic Idealize.ShloMosaic.StableHlo

/-- The points: the rows of an array. -/
def rows (A : S16384x3.Idx → EReal) : Pts := fun p k => A (ix2 p k)

theorem squares (v : FVec Ideal S16384x3 .f32) (p : Fin 16384) :
    Host.reduceAdd (F := Ideal) (φ := .f32) v (constant S_ .f32 0x00000000#32) reducesTo_S16384x3_S16384_d1 h_S_ (ix1 p) = ∑ k : Fin 3, (v (ix2 p k) : EReal) := by
  refine (Ideal.hostReduceAdd_single _ (by decide) _ _ _).trans ?_
  rw [show (constant (F := Ideal) S_ .f32 0x00000000#32 (Shape.Idx.first h_S_) : EReal) = 0 from Ideal.ofBits_zero_f32, zero_add]
  refine Finset.sum_congr rfl fun k _ => congrArg v ?_
  funext b
  match b with
  | ⟨0, _⟩ => rfl
  | ⟨1, _⟩ => rfl

theorem spread (v : S3.Idx → EReal) (p : Fin 16384) (k : Fin 3) :
    broadcastInDim S16384x3 ![0, 1] bcast_S1x3_S16384x3_0_1 (broadcastInDim S1x3 ![1] bcast_S3_S1x3_1 v) (ix2 p k) = v (ix1 k) := by
  refine (broadcastInDim_apply _ _ _ _ (ix2 (0 : Fin 1) k) fun a => ?_).trans (broadcastInDim_apply _ _ _ _ (ix1 k) fun a => ?_)
  · match a with
    | ⟨0, _⟩ => rfl
    | ⟨1, _⟩ => rfl
  · match a with
    | ⟨0, _⟩ => rfl

theorem start_eq (n : ℕ) (hn : n < 2 ^ 31) (d : S_.Idx → BitVec 32) (i : S1.Idx) :
    broadcastInDim S1 ![] bcast_S_S1 (id (select (cmpi .slt (fun _ : S_.Idx => BitVec.ofNat 32 n) (constantI S_ 32 0#32)) d (fun _ => BitVec.ofNat 32 n))) i
      = BitVec.ofNat 32 n :=
  (broadcastInDim_apply _ _ _ _ (Shape.Idx.first h_S_) fun a => a.elim0).trans
    (select_slt_zero_of_nonneg (s := S_) (fun _ => BitVec.ofNat 32 n) d _ _ (by rw [toInt_ofNat_of_lt hn]; omega))

/-- The carried buffers after `k` trips. -/
structure At (A : S16384x3.Idx → EReal) (k : ℕ) (V : Valuation τ sig (Elt Ideal)) : Prop where
  points : V (Proc.devRef .tc main_v2_0) = A
  place : V (Proc.devRef .tc main_v2_2) = fun _ => BitVec.ofNat 32 (k + 1)
  dists : ∀ p : Fin 16384, (V (Proc.devRef .tc main_v2_4) : S16384.Idx → EReal) (ix1 p) = (st (rows A) k).1 p
  picks : ∀ j : Fin 4096, j.val ≤ k → (V (Proc.devRef .tc main_v2_3) : S4096.Idx → BitVec 32) (ix1 j) = BitVec.ofNat 32 (st (rows A) j.val).2.val

variable {A : S16384x3.Idx → EReal} {k : ℕ} {V : Valuation τ sig (Elt Ideal)}

theorem v40_eq (h : At A k V) (hk : k < 4095) : res_main_while0b_v40 V = fun _ => BitVec.ofNat 32 k := by
  unfold res_main_while0b_v40
  rw [h.place]
  funext i
  show BitVec.ofNat 32 (k + 1) - 1#32 = _
  rw [StableHlo.Predicate.sub_one_ofNat _ (by omega) (by omega)]
  rfl

theorem v46_eq (h : At A k V) (hk : k < 4095) : res_main_while0b_v46 V = fun _ => BitVec.ofNat 32 (st (rows A) k).2.val := by
  unfold res_main_while0b_v46
  rw [v40_eq h hk]
  funext i
  refine (entry_eq _ _ k (by omega) ?_ i).trans (h.picks ⟨k, by omega⟩ (le_refl _))
  exact toInt_wrap_ofNat k (by omega)

theorem v57_eq (h : At A k V) (hk : k < 4095) (p : Fin 16384) (j : Fin 3) :
    (res_main_while0b_v57 V : S16384x3.Idx → EReal) (ix2 p j) = rows A p j - rows A (st (rows A) k).2 j := by
  unfold res_main_while0b_v57
  rw [v46_eq h hk, h.points]
  refine congrArg (fun z : EReal => A (ix2 p j) - z) ((spread _ p j).trans (row_eq A _ (st (rows A) k).2 ?_ ?_ j))
  · exact toInt_wrap_ofNat _ (by have := (st (rows A) k).2.isLt; omega)
  · rfl

theorem v60_eq (h : At A k V) (hk : k < 4095) (p : Fin 16384) :
    (res_main_while0b_v60 V : S16384.Idx → EReal) (ix1 p) = lower (rows A) (st (rows A) k) p := by
  unfold res_main_while0b_v60
  refine congrArg₂ (fun a b : EReal => min a b) (h.dists p) ((squares _ p).trans (Finset.sum_congr rfl fun j _ => ?_))
  exact congrArg₂ (fun a b : EReal => a * b) (v57_eq h hk p j) (v57_eq h hk p j)

theorem step (h : At A k V) (hk : k < 4095) : At A (k + 1) (STEP V) where
  points := (STEP_main_v2_0 V).trans h.points
  place := by
    rw [STEP_main_v2_2]
    unfold step_main_v2_2
    rw [h.place]
    funext i
    show BitVec.ofNat 32 (k + 1) + BitVec.ofNat 32 1 = _
    rw [← BitVec.ofNat_add]
  dists p := by
    rw [STEP_main_v2_4, st_succ]
    exact v60_eq h hk p
  picks j hj := by
    rw [STEP_main_v2_3]
    unfold step_main_v2_3
    rw [h.place]
    refine (write_eq' _ _ _ (k + 1) (by omega) (fun i => start_eq (k + 1) (by omega) _ i) j).trans ?_
    split
    · next e =>
      rw [e, st_succ]
      refine (argmax_eq _ _).trans (congrArg (fun f : Fin 16384 → EReal => BitVec.ofNat 32 (arg f).val) (funext fun p => v60_eq h hk p))
    · next e => exact h.picks j (by omega)

variable (m : (ℓ : Loc nD τ sig) → Buf (Elt Ideal) ℓ) (c : Dev nD)

/-- The argument. -/
def points : S16384x3.Idx → EReal := m ((c.tc : Thread nD τ).loc main_arg0)

theorem entry : At (points m c) 0 (entryContents preI m c) where
  points := by
    simp only [entryContents, afterL_cons, afterL_nil]
    after_reads_simp
    rfl
  place := by
    simp only [entryContents, afterL_cons, afterL_nil]
    after_reads_simp
    rfl
  dists p := by
    simp only [entryContents, afterL_cons, afterL_nil]
    after_reads_simp
    show Ideal.ofBits .f32 0x7F800000#32 = ⊤
    simp [Ideal.ofBits, Ideal.ieee]
  picks j hj := by
    simp only [entryContents, afterL_cons, afterL_nil]
    after_reads_simp
    obtain rfl : j = 0 := Fin.ext (Nat.le_zero.1 hj)
    rfl

theorem trips : ∀ k, k ≤ 4095 → At (points m c) k (STEP^[k] (entryContents preI m c))
  | 0, _ => entry m c
  | k + 1, hk => by
    rw [Function.iterate_succ_apply']
    exact step (trips k (by omega)) (by omega)

end Cert.ReferenceIdeal.Loop

end
-- ==== Proof.RefValue.lean ====
/-
  The reference's two results over the extended reals: the sampled points, and for each point the softmax over the
  sampled points of the zero-or-one array that says which of them are near.
-/
module

public import proofs.«01_k».proof.Proof.RefLoop

@[expose] public section

set_option maxRecDepth 16384

noncomputable section

namespace Cert.ReferenceIdeal.Results

open Cert.ReferenceIdeal Cert.ReferenceIdeal.Gen Cert.ReferenceIdeal.Value Cert.ReferenceIdeal.Ops Cert.ReferenceIdeal.Loop Cert.Spec
open Idealize.ShloMosaic Idealize.ShloMosaic.TcCoe Idealize.ShloMosaic.ValueIdx Idealize.ShloMosaic.StableHlo

/-! ## The first result -/

/-- The sampled rows. -/
def picked (x : Pts) (j : Fin 4096) : Fin 16384 := (st x j.val).2

theorem col (v : S4096.Idx → BitVec 32) (j : Fin 4096) : broadcastInDim S4096x1 ![0] bcast_S4096_S4096x1_0 v (ix2 j 0) = v (ix1 j) :=
  broadcastInDim_apply _ _ _ _ _ fun a => match a with | ⟨0, _⟩ => rfl

/-- An index that is not negative, after the test for a negative one. -/
theorem wrapped (v d : S4096.Idx → BitVec 32) (j : Fin 4096) (n : ℕ) (hn : n < 2 ^ 31) (h : v (ix1 j) = BitVec.ofNat 32 n) :
    select (cmpi .slt v (broadcastInDim S4096 ![] bcast_S_S4096 (constantI S_ 32 0#32))) d v (ix1 j) = BitVec.ofNat 32 n := by
  refine (select_slt_zero_of_nonneg v d v (ix1 j) ?_).trans h
  rw [h, toInt_ofNat_of_lt hn]
  omega

theorem sampled {A : S16384x3.Idx → EReal} {V : Valuation τ sig (Elt Ideal)} (h : At A 4095 V) (hA : V (Proc.devRef .tc main_arg0) = A)
    (j : Fin 4096) (k : Fin 3) : (out_main_v9 V : S4096x3.Idx → EReal) (ix2 j k) = rows A (picked (rows A) j) k := by
  unfold out_main_v9
  rw [hA]
  refine rows_eq A _ (picked (rows A)) (fun i => ?_) j k
  refine (col _ i).trans (wrapped _ _ i _ ?_ (h.picks i (by have := i.isLt; omega)))
  have := (picked (rows A) i).isLt
  exact lt_trans this (by norm_num)

/-! ## The second result -/

variable (x : FVec Ideal S16384x3 .f32) (G : FVec Ideal S4096x3 .f32) (s : FVec Ideal S16384x4096 .f32)

/-- The squared distances; -/
def dist : FVec Ideal S16384x4096 .f32 :=
  subf (addf (broadcastInDim S16384x4096 ![0, 1] bcast_S16384x1_S16384x4096_0_1 (broadcastInDim S16384x1 ![0] bcast_S16384_S16384x1_0 (Host.reduceAdd (mulf x x) (constant S_ .f32 0x00000000#32) reducesTo_S16384x3_S16384_d1 h_S_))) (broadcastInDim S16384x4096 ![0, 1] bcast_S1x4096_S16384x4096_0_1 (broadcastInDim S1x4096 ![1] bcast_S4096_S1x4096_1 (Host.reduceAdd (mulf G G) (constant S_ .f32 0x00000000#32) reducesTo_S4096x3_S4096_d1 h_S_)))) (mulf (broadcastInDim S16384x4096 ![] bcast_S_S16384x4096 (constant S_ .f32 0x40000000#32)) (Host.dotGeneral dot_S16384x3_S3x4096_S16384x4096_1_0_0_1_n_n none x (transpose S3x4096 [1, 0] G transposes_S4096x3_S3x4096_1_0)))

/-- the zero-or-one array; -/
def score : FVec Ideal S16384x4096 .f32 :=
  id (select (cmpf .olt (dist x G) (broadcastInDim S16384x4096 ![] bcast_S_S16384x4096 (constant S_ .f32 0x3D23D70A#32))) (broadcastInDim S16384x4096 ![] bcast_S_S16384x4096 (constant S_ .f32 0x3F800000#32)) (broadcastInDim S16384x4096 ![] bcast_S_S16384x4096 (constant S_ .f32 0x00000000#32)))

/-- the greatest entry of each row; -/
def most : FVec Ideal S16384 .f32 :=
  maximumf (broadcastInDim S16384 ![] bcast_S_S16384 (constant S_ .f32 0xFF800000#32)) (Host.reduce FloatOps.maximumf s (constant S_ .f32 0xFF800000#32) reducesTo_S16384x4096_S16384_d1 h_S_)

/-- the exponentials; -/
def ex : FVec Ideal S16384x4096 .f32 :=
  Host.exp (subf s (broadcastInDim S16384x4096 ![0, 1] bcast_S16384x1_S16384x4096_0_1 (broadcastInDim S16384x1 ![0] bcast_S16384_S16384x1_0 (most s))))

/-- the quotients. -/
def out : FVec Ideal S16384x4096 .f32 :=
  Host.divf (ex (score x G)) (broadcastInDim S16384x4096 ![0, 1] bcast_S16384x1_S16384x4096_0_1 (broadcastInDim S16384x1 ![0] bcast_S16384_S16384x1_0 (Host.reduceAdd (ex (score x G)) (constant S_ .f32 0x00000000#32) reducesTo_S16384x4096_S16384_d1 h_S_)))

theorem out_eq (V : Valuation τ sig (Elt Ideal)) : out_main_v38 V = out (V (Proc.devRef .tc main_arg0)) (out_main_v9 V) := rfl

theorem overRows (v : S16384.Idx → EReal) (p : Fin 16384) (j : Fin 4096) :
    broadcastInDim S16384x4096 ![0, 1] bcast_S16384x1_S16384x4096_0_1 (broadcastInDim S16384x1 ![0] bcast_S16384_S16384x1_0 v) (ix2 p j) = v (ix1 p) := by
  refine (broadcastInDim_apply _ _ _ _ (ix2 p (0 : Fin 1)) fun a => ?_).trans (broadcastInDim_apply _ _ _ _ (ix1 p) fun a => ?_)
  · match a with
    | ⟨0, _⟩ => rfl
    | ⟨1, _⟩ => rfl
  · match a with
    | ⟨0, _⟩ => rfl

theorem overCols (v : S4096.Idx → EReal) (p : Fin 16384) (j : Fin 4096) :
    broadcastInDim S16384x4096 ![0, 1] bcast_S1x4096_S16384x4096_0_1 (broadcastInDim S1x4096 ![1] bcast_S4096_S1x4096_1 v) (ix2 p j) = v (ix1 j) := by
  refine (broadcastInDim_apply _ _ _ _ (ix2 (0 : Fin 1) j) fun a => ?_).trans (broadcastInDim_apply _ _ _ _ (ix1 j) fun a => ?_)
  · match a with
    | ⟨0, _⟩ => rfl
    | ⟨1, _⟩ => rfl
  · match a with
    | ⟨0, _⟩ => rfl

theorem everywhere (b : BitVec 32) (i : S16384x4096.Idx) :
    (broadcastInDim S16384x4096 ![] bcast_S_S16384x4096 (constant (F := Ideal) S_ .f32 b) i : EReal) = Ideal.ofBits .f32 b := rfl

theorem squares4096 (v : FVec Ideal S4096x3 .f32) (j : Fin 4096) :
    Host.reduceAdd (F := Ideal) (φ := .f32) v (constant S_ .f32 0x00000000#32) reducesTo_S4096x3_S4096_d1 h_S_ (ix1 j) = ∑ k : Fin 3, (v (ix2 j k) : EReal) := by
  refine (Ideal.hostReduceAdd_single _ (by decide) _ _ _).trans ?_
  rw [show (constant (F := Ideal) S_ .f32 0x00000000#32 (Shape.Idx.first h_S_) : EReal) = 0 from Ideal.ofBits_zero_f32, zero_add]
  refine Finset.sum_congr rfl fun k _ => congrArg v ?_
  funext b
  match b with
  | ⟨0, _⟩ => rfl
  | ⟨1, _⟩ => rfl

theorem total (v : FVec Ideal S16384x4096 .f32) (p : Fin 16384) :
    Host.reduceAdd (F := Ideal) (φ := .f32) v (constant S_ .f32 0x00000000#32) reducesTo_S16384x4096_S16384_d1 h_S_ (ix1 p) = ∑ j : Fin 4096, (v (ix2 p j) : EReal) := by
  refine (Ideal.hostReduceAdd_single _ (by decide) _ _ _).trans ?_
  rw [show (constant (F := Ideal) S_ .f32 0x00000000#32 (Shape.Idx.first h_S_) : EReal) = 0 from Ideal.ofBits_zero_f32, zero_add]
  refine Finset.sum_congr rfl fun k _ => congrArg v ?_
  funext b
  match b with
  | ⟨0, _⟩ => rfl
  | ⟨1, _⟩ => rfl

theorem product (p : Fin 16384) (j : Fin 4096) :
    (Host.dotGeneral (F := Ideal) dot_S16384x3_S3x4096_S16384x4096_1_0_0_1_n_n none x (transpose S3x4096 [1, 0] G transposes_S4096x3_S3x4096_1_0) (ix2 p j) : EReal)
      = ∑ k : Fin 3, (x (ix2 p k) : EReal) * G (ix2 j k) := by
  simp only [Host.dotGeneral]
  rw [Ideal.dotGeneral_apply, ← Equiv.sum_comp (contrEquiv1 dot_S16384x3_S3x4096_S16384x4096_1_0_0_1_n_n 3 rfl rfl).symm]
  refine Finset.sum_congr rfl fun k _ => congrArg₂ (fun a b : EReal => a * b) (congrArg x ?_) ?_
  · funext b
    match b with
    | ⟨0, _⟩ => rfl
    | ⟨1, _⟩ => rfl
  · exact transpose_apply _ _ _ _ (ix2 j k) fun a => match a with | ⟨0, _⟩ => rfl | ⟨1, _⟩ => rfl

/-- A row of the points; -/
def pt (p : Fin 16384) : Fin 3 → EReal := fun k => x (ix2 p k)
/-- the sampled points. -/
def cs (j : Fin 4096) : Fin 3 → EReal := fun k => G (ix2 j k)

theorem sub_at {t : Shape} (u v : FVec Ideal t .f32) (i : t.Idx) (a b : EReal) (hu : (u i : EReal) = a) (hv : (v i : EReal) = b) : (subf u v i : EReal) = a - b := by
  rw [← hu, ← hv]; rfl

theorem add_at {t : Shape} (u v : FVec Ideal t .f32) (i : t.Idx) (a b : EReal) (hu : (u i : EReal) = a) (hv : (v i : EReal) = b) : (addf u v i : EReal) = a + b := by
  rw [← hu, ← hv]; rfl

theorem mul_at {t : Shape} (u v : FVec Ideal t .f32) (i : t.Idx) (a b : EReal) (hu : (u i : EReal) = a) (hv : (v i : EReal) = b) : (mulf u v i : EReal) = a * b := by
  rw [← hu, ← hv]; rfl

theorem div_at {t : Shape} (u v : FVec Ideal t .f32) (i : t.Idx) (a b : EReal) (hu : (u i : EReal) = a) (hv : (v i : EReal) = b) : (Host.divf u v i : EReal) = Ideal.div a b := by
  rw [← hu, ← hv]; rfl

theorem exp_at {t : Shape} (u : FVec Ideal t .f32) (i : t.Idx) (a : EReal) (hu : (u i : EReal) = a) : (Host.exp u i : EReal) = Ideal.exp a := by
  rw [← hu]; rfl

theorem dist_eq (p : Fin 16384) (j : Fin 4096) : (dist x G (ix2 p j) : EReal) = dist2 (pt x p) (cs G j) := by
  unfold dist dist2
  refine sub_at _ _ _ _ _ (add_at _ _ _ _ _ ?_ ?_) (mul_at _ _ _ _ _ (everywhere _ _) (product x G p j))
  · refine (overRows _ p j).trans ((squares _ p).trans (Finset.sum_congr rfl fun k _ => ?_))
    exact mul_at x x _ _ _ rfl rfl
  · refine (overCols _ p j).trans ((squares4096 _ j).trans (Finset.sum_congr rfl fun k _ => ?_))
    exact mul_at G G _ _ _ rfl rfl

open Classical in
theorem choose_eq (d : EReal) : (Scalar.select (Ideal.cmp .olt d (Ideal.ofBits .f32 0x3D23D70A#32)) (Ideal.ofBits .f32 0x3F800000#32) (Ideal.ofBits .f32 0x00000000#32) : EReal)
    = if d < radius2 then 1 else 0 := by
  have h : Ideal.cmp .olt d (Ideal.ofBits .f32 0x3D23D70A#32) = BitVec.ofBool (decide (d < radius2)) := rfl
  rw [h, Ideal.ofBits_one_f32, Ideal.ofBits_zero_f32]
  by_cases e : d < radius2 <;> simp [e, Scalar.select]

open Classical in
theorem choose_at (d : FVec Ideal S16384x4096 .f32) (i : S16384x4096.Idx) :
    (id (select (cmpf (F := Ideal) .olt d (broadcastInDim S16384x4096 ![] bcast_S_S16384x4096 (constant S_ .f32 0x3D23D70A#32)))
      (broadcastInDim S16384x4096 ![] bcast_S_S16384x4096 (constant (F := Ideal) S_ .f32 0x3F800000#32))
      (broadcastInDim S16384x4096 ![] bcast_S_S16384x4096 (constant (F := Ideal) S_ .f32 0x00000000#32))) i : EReal) = if (d i : EReal) < radius2 then 1 else 0 :=
  choose_eq (d i)

theorem score_eq (p : Fin 16384) (j : Fin 4096) : (score x G (ix2 p j) : EReal) = ind (pt x p) (cs G j) := by
  unfold score
  rw [choose_at, dist_eq]
  unfold ind near
  congr

theorem drop_eq (p : Fin 16384) (j : Fin 4096) : reducesTo_S16384x4096_S16384_d1.drop (ix2 p j : S16384x4096.Idx) = (ix1 p : S16384.Idx) := by
  funext b
  match b with
  | ⟨0, _⟩ => rfl

theorem bot_eq : (Ideal.ofBits .f32 0xFF800000#32 : EReal) = ⊥ := by simp [Ideal.ofBits, Ideal.ieee]

theorem max_at {t : Shape} (u v : FVec Ideal t .f32) (i : t.Idx) (a b : EReal) (hu : (u i : EReal) = a) (hv : (v i : EReal) = b) : (maximumf u v i : EReal) = max a b := by
  rw [← hu, ← hv]; rfl

theorem fold_le (f : EReal → EReal → EReal) (hf : f = max) (v : S16384x4096.Idx → EReal) (init : S_.Idx → EReal) (h0 : init (Shape.Idx.first h_S_) = ⊥)
    (p : Fin 16384) (z : EReal) :
    Host.reduce f v init reducesTo_S16384x4096_S16384_d1 h_S_ (ix1 p) ≤ z ↔ ∀ j : Fin 4096, v (ix2 p j) ≤ z := by
  subst hf
  rw [Host.reduce_eq_fold, h0, Finset.fold_max_le]
  constructor
  · intro h j
    exact h.2 (ix2 p j) (Finset.mem_filter.2 ⟨Finset.mem_univ _, drop_eq p j⟩)
  · intro h
    refine ⟨bot_le, fun i hi => ?_⟩
    obtain ⟨q, j, rfl⟩ : ∃ (q : Fin 16384) (j : Fin 4096), i = (ix2 q j : S16384x4096.Idx) := ⟨i 0, i 1, eq_ix2 (n0 := 16384) (n1 := 4096) i⟩
    have hq : (ix1 q : S16384.Idx) = ix1 p := (drop_eq q j).symm.trans (Finset.mem_filter.1 hi).2
    have hq' : q = p := congrFun hq 0
    rw [hq']
    exact h j

/-- The greatest of a row is no more than a bound exactly when every entry is. -/
theorem most_le (p : Fin 16384) (z : EReal) : (most s (ix1 p) : EReal) ≤ z ↔ ∀ j : Fin 4096, (s (ix2 p j) : EReal) ≤ z := by
  unfold most
  rw [max_at _ _ _ _ _ (show (broadcastInDim S16384 ![] bcast_S_S16384 (constant (F := Ideal) S_ .f32 0xFF800000#32) (ix1 p) : EReal) = ⊥ from bot_eq) rfl, bot_sup_eq]
  exact fold_le _ rfl s _ bot_eq p z

theorem most_eq (p : Fin 16384) : (most (score x G) (ix1 p) : EReal) = top (pt x p) (cs G) := by
  classical
  have hs : ∀ j : Fin 4096, (score x G (ix2 p j) : EReal) = if near (pt x p) (cs G j) then 1 else 0 := fun j => by
    rw [score_eq]
    unfold ind
    congr
  by_cases h : ∃ j, near (pt x p) (cs G j)
  · have ht : top (pt x p) (cs G) = 1 := if_pos h
    rw [ht]
    refine le_antisymm ((most_le _ p 1).2 fun j => ?_) ?_
    · rw [hs]; split
      · exact le_refl _
      · exact zero_le_one
    · obtain ⟨j, hj⟩ := h
      have := (most_le (score x G) p _).1 (le_refl _) j
      rwa [hs, if_pos hj] at this
  · have ht : top (pt x p) (cs G) = 0 := if_neg h
    have hn : ∀ j, ¬ near (pt x p) (cs G j) := fun j hj => h ⟨j, hj⟩
    rw [ht]
    refine le_antisymm ((most_le _ p 0).2 fun j => ?_) ?_
    · rw [hs, if_neg (hn j)]
    · have := (most_le (score x G) p _).1 (le_refl _) 0
      rwa [hs, if_neg (hn 0)] at this

theorem ex_eq (p : Fin 16384) (j : Fin 4096) : (ex (score x G) (ix2 p j) : EReal) = Ideal.exp (ind (pt x p) (cs G j) - top (pt x p) (cs G)) := by
  unfold ex
  exact exp_at _ _ _ (sub_at _ _ _ _ _ (score_eq x G p j) ((overRows _ p j).trans (most_eq x G p)))

theorem out_apply (p : Fin 16384) (j : Fin 4096) : (out x G (ix2 p j) : EReal) = weight (pt x p) (cs G) j := by
  unfold out
  refine Eq.trans ?_ (soft (pt x p) (cs G) j)
  exact div_at _ _ _ _ _ (ex_eq x G p j) ((overRows _ p j).trans ((total _ p).trans (Finset.sum_congr rfl fun i _ => ex_eq x G p i)))

/-! ## Both, at the end of the run -/

variable {A : S16384x3.Idx → EReal} {V : Valuation τ sig (Elt Ideal)}

theorem first_of (h : At A 4095 V) (hA : V (Proc.devRef .tc main_arg0) = A) :
    out_main_v9 V = fun y : S4096x3.Idx => rows A (st (rows A) (y 0).val).2 (y 1) := by
  funext y
  obtain ⟨j, k, rfl⟩ : ∃ (j : Fin 4096) (k : Fin 3), y = (ix2 j k : S4096x3.Idx) := ⟨y 0, y 1, eq_ix2 (n0 := 4096) (n1 := 3) y⟩
  exact sampled h hA j k

theorem second_of (h : At A 4095 V) (hA : V (Proc.devRef .tc main_arg0) = A) :
    out_main_v38 V = fun y : S16384x4096.Idx => weight (rows A (y 0)) (fun j => rows A (st (rows A) j.val).2) (y 1) := by
  rw [out_eq, hA]
  funext y
  obtain ⟨p, j, rfl⟩ : ∃ (p : Fin 16384) (j : Fin 4096), y = (ix2 p j : S16384x4096.Idx) := ⟨y 0, y 1, eq_ix2 (n0 := 16384) (n1 := 4096) y⟩
  refine (out_apply A (out_main_v9 V) p j).trans ?_
  have e : cs (out_main_v9 V) = fun i => rows A (st (rows A) i.val).2 := funext fun i => funext fun k => sampled h hA i k
  rw [e]
  rfl

variable (m : (ℓ : Loc nD τ sig) → Buf (Elt Ideal) ℓ) (c : Dev nD)

theorem first_eq : out_main_v9 (STEP^[4095] (entryContents preI m c))
    = fun y : S4096x3.Idx => rows (points m c) (st (rows (points m c)) (y 0).val).2 (y 1) :=
  first_of (trips m c 4095 (le_refl _)) (iter_main_arg0 m c 4095)

theorem second_eq : out_main_v38 (STEP^[4095] (entryContents preI m c))
    = fun y : S16384x4096.Idx => weight (rows (points m c) (y 0)) (fun j => rows (points m c) (st (rows (points m c)) j.val).2) (y 1) :=
  second_of (trips m c 4095 (le_refl _)) (iter_main_arg0 m c 4095)

end Cert.ReferenceIdeal.Results

end
-- ==== Proof.lean ====
module

public import proofs.«01_k».proof.Defs
public import proofs.«01_k».proof.Proof.WRun
public import proofs.«01_k».proof.Proof.KRun
public import proofs.«01_k».proof.Proof.Weights
public import proofs.«01_k».proof.Proof.RefValue
public import Idealize.ShloMosaic.Adequacy
public import Idealize.ShloMosaic.Init

@[expose] public section

noncomputable section

namespace Cert.Proof

open Idealize.ShloMosaic Idealize.SL.Sem

/-- The kernel ends, leaves its argument as it was and every counter at zero. -/
theorem frame_kernel : Cert.quiescent_Kernel (hKernel := Cert.Kernel.Gen.facts) := fun m ρ _ =>
  (θ_run Cert.Kernel.defs _ _).mono (fun _ h => ⟨fun c => (h.1 c).2.2, h.2⟩) (Cert.Kernel.Run.run_main (F := Bits) m ρ)

/-- So does the kernel over the extended reals. -/
theorem frame_ideal : Cert.quiescent_KernelIdeal (hKernelIdeal := Cert.KernelIdeal.Gen.facts) := fun m ρ _ =>
  (θ_run Cert.KernelIdeal.defs _ _).mono (fun _ h => ⟨fun c => (h.1 c).2.2, h.2⟩) (Cert.KernelIdeal.Run.run_main m ρ)

/-- So does the reference, which has no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run m ρ)

/-- The word of the stand-in for +∞ is read as +∞. -/
theorem preserves : Cert.preserves_Kernel_KernelIdeal :=
  IdealRules.named_const.statement Cert.KernelIdeal.κ "far" .f32 0x7149F2CA#32 ⊤ rfl

/-- Arguments that agree are the same points. -/
theorem same_points (a : Cert.ReferenceIdeal.S16384x3.Idx → EReal) (b : Cert.KernelIdeal.S16384x3.Idx → EReal) (h : a = b) :
    Cert.ReferenceIdeal.Loop.rows a = fun p k => b (ValueIdx.ix2 p k) := by
  subst h
  rfl

/-- Over the extended reals the kernel and the reference end with the same two results. -/
theorem algebraic : Cert.algebraic_KernelIdeal_ReferenceIdeal (hKernelIdeal := Cert.KernelIdeal.Gen.facts) (hReferenceIdeal := Cert.ReferenceIdeal.Gen.facts) := by
  intro m g m' g' _ hag
  have hx : ∀ c : Dev Cert.KernelIdeal.nD, Cert.ReferenceIdeal.Loop.rows (Cert.ReferenceIdeal.Loop.points m' c) = Cert.KernelIdeal.Arrays.pts m c :=
    fun c => same_points _ _ (hag c)
  refine ⟨fun c => Cert.KernelIdeal.Run.cents m c, fun c => Cert.KernelIdeal.Run.weights m c, ?_, ?_⟩
  · exact (θ_run Cert.KernelIdeal.defs _ _).mono (fun _ h => h.1) (Cert.KernelIdeal.Run.run_main m g)
  · refine (θ_run Cert.ReferenceIdeal.defs _ _).mono (fun _ h c => ⟨(h c).1.trans ?_, (h c).2.1.trans ?_, (h c).2.2⟩) (Cert.ReferenceIdeal.Value.run m' g')
    · refine (Cert.ReferenceIdeal.Results.first_eq m' c).trans (Eq.trans ?_ (Cert.KernelIdeal.Arrays.cents_eq m c).symm)
      rw [hx c]
      rfl
    · refine (Cert.ReferenceIdeal.Results.second_eq m' c).trans (Eq.trans ?_ (Cert.KernelIdeal.Weights.weights_eq m c).symm)
      rw [hx c]
      rfl

theorem claim : Cert.Claim :=
  ⟨Cert.Kernel.Gen.facts, Cert.KernelIdeal.Gen.facts, Cert.ReferenceIdeal.Gen.facts, frame_kernel, frame_ideal, frame_reference, preserves,
    algebraic⟩

end Cert.Proof

end
